-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_n" .f32 0x3A2AAAAB#32 ((1 / 1536 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v140) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_v25) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x3584 : Shape := ⟨3, ![6, 256, 3584]⟩
abbrev S3584 : Shape := ⟨1, ![3584]⟩
abbrev S3584x18944 : Shape := ⟨2, ![3584, 18944]⟩
abbrev S1792x18944 : Shape := ⟨2, ![1792, 18944]⟩
abbrev S28x18944 : Shape := ⟨2, ![28, 18944]⟩
abbrev S1536x3584 : Shape := ⟨2, ![1536, 3584]⟩
abbrev S1x3584 : Shape := ⟨2, ![1, 3584]⟩
abbrev S1536x128 : Shape := ⟨2, ![1536, 128]⟩
abbrev S128x3584 : Shape := ⟨2, ![128, 3584]⟩
abbrev S128x128 : Shape := ⟨2, ![128, 128]⟩
abbrev S128 : Shape := ⟨1, ![128]⟩
abbrev S128x1 : Shape := ⟨2, ![128, 1]⟩
abbrev S1x18944 : Shape := ⟨2, ![1, 18944]⟩
abbrev S3584x256 : Shape := ⟨2, ![3584, 256]⟩
abbrev S1792x256 : Shape := ⟨2, ![1792, 256]⟩
abbrev S28x256 : Shape := ⟨2, ![28, 256]⟩
abbrev S1x256 : Shape := ⟨2, ![1, 256]⟩
abbrev S1536x256 : Shape := ⟨2, ![1536, 256]⟩
abbrev S64x256 : Shape := ⟨2, ![64, 256]⟩
abbrev S128x256 : Shape := ⟨2, ![128, 256]⟩
abbrev S256 : Shape := ⟨1, ![256]⟩
abbrev S1536x512 : Shape := ⟨2, ![1536, 512]⟩
abbrev S1x512 : Shape := ⟨2, ![1, 512]⟩
abbrev S512 : Shape := ⟨1, ![512]⟩
abbrev S18944 : Shape := ⟨1, ![18944]⟩
abbrev S1536x1 : Shape := ⟨2, ![1536, 1]⟩
abbrev S1536 : Shape := ⟨1, ![1536]⟩
abbrev S6x256 : Shape := ⟨2, ![6, 256]⟩

abbrev nBuf : Space → Nat
  | .hbm => 24
  | .vmem => 37
  | .smem => 0
  | _ => 0

abbrev bufTy : (tb : Table) → Fin (tcTables nBuf tb) → BufTy
  | .hbm, ⟨0, _⟩ => ⟨S6x256x3584, .bf16⟩
  | .hbm, ⟨1, _⟩ => ⟨S3584, .f32⟩
  | .hbm, ⟨2, _⟩ => ⟨S3584, .f32⟩
  | .hbm, ⟨3, _⟩ => ⟨S3584x18944, .bf16⟩
  | .hbm, ⟨4, _⟩ => ⟨S1792x18944, .i8⟩
  | .hbm, ⟨5, _⟩ => ⟨S28x18944, .f32⟩
  | .hbm, ⟨6, _⟩ => ⟨S1536x3584, .bf16⟩
  | .hbm, ⟨7, _⟩ => ⟨S1x3584, .f32⟩
  | .hbm, ⟨8, _⟩ => ⟨S1x3584, .f32⟩
  | .hbm, ⟨9, _⟩ => ⟨S1536x3584, .bf16⟩
  | .hbm, ⟨10, _⟩ => ⟨S1536x3584, .bf16⟩
  | .hbm, ⟨11, _⟩ => ⟨S1536x3584, .i8⟩
  | .hbm, ⟨12, _⟩ => ⟨S1536x128, .f32⟩
  | .hbm, ⟨13, _⟩ => ⟨S1536x128, .f32⟩
  | .hbm, ⟨14, _⟩ => ⟨S1536x3584, .f32⟩
  | .hbm, ⟨15, _⟩ => ⟨S1x18944, .f32⟩
  | .hbm, ⟨16, _⟩ => ⟨S1x3584, .f32⟩
  | .hbm, ⟨17, _⟩ => ⟨S18944, .f32⟩
  | .hbm, ⟨18, _⟩ => ⟨S3584, .f32⟩
  | .hbm, ⟨19, _⟩ => ⟨S6x256x3584, .f32⟩
  | .hbm, ⟨20, _⟩ => ⟨S6x256x3584, .i8⟩
  | .hbm, ⟨21, _⟩ => ⟨S1536x1, .f32⟩
  | .hbm, ⟨22, _⟩ => ⟨S1536, .f32⟩
  | .hbm, ⟨23, _⟩ => ⟨S6x256, .f32⟩
  | .local _ .vmem, ⟨0, _⟩ => ⟨S128x3584, .bf16⟩
  | .local _ .vmem, ⟨1, _⟩ => ⟨S128x3584, .bf16⟩
  | .local _ .vmem, ⟨2, _⟩ => ⟨S1x3584, .f32⟩
  | .local _ .vmem, ⟨3, _⟩ => ⟨S1x3584, .f32⟩
  | .local _ .vmem, ⟨4, _⟩ => ⟨S128x3584, .bf16⟩
  | .local _ .vmem, ⟨5, _⟩ => ⟨S128x3584, .bf16⟩
  | .local _ .vmem, ⟨6, _⟩ => ⟨S128x3584, .bf16⟩
  | .local _ .vmem, ⟨7, _⟩ => ⟨S128x3584, .bf16⟩
  | .local _ .vmem, ⟨8, _⟩ => ⟨S128x3584, .i8⟩
  | .local _ .vmem, ⟨9, _⟩ => ⟨S128x3584, .i8⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S1536x3584, .bf16⟩
  | .local _ .vmem, ⟨15, _⟩ => ⟨S1536x3584, .bf16⟩
  | .local _ .vmem, ⟨16, _⟩ => ⟨S1536x128, .f32⟩
  | .local _ .vmem, ⟨17, _⟩ => ⟨S3584x256, .bf16⟩
  | .local _ .vmem, ⟨18, _⟩ => ⟨S3584x256, .bf16⟩
  | .local _ .vmem, ⟨19, _⟩ => ⟨S1792x256, .i8⟩
  | .local _ .vmem, ⟨20, _⟩ => ⟨S1792x256, .i8⟩
  | .local _ .vmem, ⟨21, _⟩ => ⟨S28x256, .f32⟩
  | .local _ .vmem, ⟨22, _⟩ => ⟨S28x256, .f32⟩
  | .local _ .vmem, ⟨23, _⟩ => ⟨S1536x3584, .f32⟩
  | .local _ .vmem, ⟨24, _⟩ => ⟨S1x256, .f32⟩
  | .local _ .vmem, ⟨25, _⟩ => ⟨S1x256, .f32⟩
  | .local _ .vmem, ⟨26, _⟩ => ⟨S3584x256, .bf16⟩
  | .local _ .vmem, ⟨27, _⟩ => ⟨S1536x256, .f32⟩
  | .local _ .vmem, ⟨28, _⟩ => ⟨S1536x256, .f32⟩
  | .local _ .vmem, ⟨29, _⟩ => ⟨S1536x256, .bf16⟩
  | .local _ .vmem, ⟨30, _⟩ => ⟨S1536x512, .f32⟩
  | .local _ .vmem, ⟨31, _⟩ => ⟨S1536x512, .f32⟩
  | .local _ .vmem, ⟨32, _⟩ => ⟨S1536x512, .bf16⟩
  | .local _ .vmem, ⟨33, _⟩ => ⟨S1536x512, .bf16⟩
  | .local _ .vmem, ⟨34, _⟩ => ⟨S1536x128, .f32⟩
  | .local _ .vmem, ⟨35, _⟩ => ⟨S1x512, .f32⟩
  | .local _ .vmem, ⟨36, _⟩ => ⟨S1x512, .f32⟩
  | _, _ => ⟨S6x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc1_scratch3 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg3_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem3_1 : DmaSem sig := 32

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3584 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![74], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1536x3584 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1536x3584 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1536x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S3584x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1792x256 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S28x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1536x3584 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![7], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1536x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1536x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1536x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== KernelIdeal.lean ====
variable {F : FTy → Type} [FloatOps F] [Named F]
def κ : String → Option EReal := fun
  | "inv_n" => some ((1 / 1536 : ℝ) : EReal)
  | _ => none
-- ==== ReferenceIdeal.lean ====
abbrev S6x256x3584 : Shape := ⟨3, ![6, 256, 3584]⟩
abbrev S3584 : Shape := ⟨1, ![3584]⟩
abbrev S3584x18944 : Shape := ⟨2, ![3584, 18944]⟩
abbrev S1792x18944 : Shape := ⟨2, ![1792, 18944]⟩
abbrev S28x18944 : Shape := ⟨2, ![28, 18944]⟩
abbrev S_ : Shape := ⟨0, ![]⟩
abbrev S6x256 : Shape := ⟨2, ![6, 256]⟩
abbrev S6x256x1 : Shape := ⟨3, ![6, 256, 1]⟩
abbrev S1x1x3584 : Shape := ⟨3, ![1, 1, 3584]⟩
abbrev S6x256x18944 : Shape := ⟨3, ![6, 256, 18944]⟩
abbrev S28x64x18944 : Shape := ⟨3, ![28, 64, 18944]⟩
abbrev S28x1x18944 : Shape := ⟨3, ![28, 1, 18944]⟩
abbrev S6x256x1792 : Shape := ⟨3, ![6, 256, 1792]⟩
abbrev S18944 : Shape := ⟨1, ![18944]⟩
abbrev S1x1x18944 : Shape := ⟨3, ![1, 1, 18944]⟩
abbrev S6x256x1792x1 : Shape := ⟨4, ![6, 256, 1792, 1]⟩
abbrev S6x256x1792x2 : Shape := ⟨4, ![6, 256, 1792, 2]⟩

abbrev nBuf : Space → Nat
  | .hbm => 190
  | .vmem => 0
  | .smem => 0
  | _ => 0

abbrev hbmTy0_0 (i : Nat) : BufTy := match i % 128 with
  | 0 => ⟨S6x256x3584, .bf16⟩
  | 1 => ⟨S3584, .f32⟩
  | 2 => ⟨S3584, .f32⟩
  | 3 => ⟨S3584x18944, .bf16⟩
  | 4 => ⟨S1792x18944, .i8⟩
  | 5 => ⟨S28x18944, .f32⟩
  | 6 => ⟨S6x256x3584, .f32⟩
  | 7 => ⟨S6x256x3584, .f32⟩
  | 8 => ⟨S_, .f32⟩
  | 9 => ⟨S6x256, .f32⟩
  | 10 => ⟨S6x256x1, .f32⟩
  | 11 => ⟨S_, .f32⟩
  | 12 => ⟨S6x256x1, .f32⟩
  | 13 => ⟨S6x256x1, .f32⟩
  | 14 => ⟨S_, .f32⟩
  | 15 => ⟨S6x256x1, .f32⟩
  | 16 => ⟨S6x256x1, .f32⟩
  | 17 => ⟨S6x256x1, .f32⟩
  | 18 => ⟨S6x256x3584, .f32⟩
  | 19 => ⟨S6x256x3584, .f32⟩
  | 20 => ⟨S1x1x3584, .f32⟩
  | 21 => ⟨S6x256x3584, .f32⟩
  | 22 => ⟨S6x256x3584, .f32⟩
  | 23 => ⟨S6x256x3584, .bf16⟩
  | 24 => ⟨S6x256x18944, .f32⟩
  | 25 => ⟨S1x1x3584, .f32⟩
  | 26 => ⟨S6x256x3584, .f32⟩
  | 27 => ⟨S6x256x3584, .f32⟩
  | 28 => ⟨S6x256x3584, .f32⟩
  | 29 => ⟨S_, .f32⟩
  | 30 => ⟨S6x256, .f32⟩
  | 31 => ⟨S_, .f32⟩
  | 32 => ⟨S6x256, .f32⟩
  | 33 => ⟨S6x256, .i1⟩
  | 34 => ⟨S_, .f32⟩
  | 35 => ⟨S6x256, .f32⟩
  | 36 => ⟨S6x256, .f32⟩
  | 37 => ⟨S_, .f32⟩
  | 38 => ⟨S_, .f32⟩
  | 39 => ⟨S6x256, .f32⟩
  | 40 => ⟨S6x256, .f32⟩
  | 41 => ⟨S6x256x1, .f32⟩
  | 42 => ⟨S6x256x3584, .f32⟩
  | 43 => ⟨S6x256x3584, .f32⟩
  | 44 => ⟨S6x256x3584, .f32⟩
  | 45 => ⟨S_, .f32⟩
  | 46 => ⟨S_, .f32⟩
  | 47 => ⟨S_, .f32⟩
  | 48 => ⟨S6x256x3584, .f32⟩
  | 49 => ⟨S6x256x3584, .f32⟩
  | 50 => ⟨S_, .f32⟩
  | 51 => ⟨S6x256x3584, .f32⟩
  | 52 => ⟨S6x256x3584, .f32⟩
  | 53 => ⟨S6x256x3584, .i32⟩
  | 54 => ⟨S6x256x3584, .i8⟩
  | 55 => ⟨S28x18944, .bf16⟩
  | 56 => ⟨S1792x18944, .i32⟩
  | 57 => ⟨S_, .i32⟩
  | 58 => ⟨S1792x18944, .i32⟩
  | 59 => ⟨S1792x18944, .i32⟩
  | 60 => ⟨S_, .i32⟩
  | 61 => ⟨S1792x18944, .i32⟩
  | 62 => ⟨S1792x18944, .i1⟩
  | 63 => ⟨S_, .i32⟩
  | 64 => ⟨S1792x18944, .i32⟩
  | 65 => ⟨S1792x18944, .i32⟩
  | 66 => ⟨S1792x18944, .i32⟩
  | 67 => ⟨S1792x18944, .bf16⟩
  | 68 => ⟨S28x64x18944, .bf16⟩
  | 69 => ⟨S28x1x18944, .bf16⟩
  | 70 => ⟨S28x64x18944, .bf16⟩
  | 71 => ⟨S28x64x18944, .bf16⟩
  | 72 => ⟨S1792x18944, .bf16⟩
  | 73 => ⟨S_, .i32⟩
  | 74 => ⟨S1792x18944, .i32⟩
  | 75 => ⟨S1792x18944, .i32⟩
  | 76 => ⟨S_, .i32⟩
  | 77 => ⟨S1792x18944, .i32⟩
  | 78 => ⟨S1792x18944, .i1⟩
  | 79 => ⟨S_, .i32⟩
  | 80 => ⟨S1792x18944, .i32⟩
  | 81 => ⟨S1792x18944, .i32⟩
  | 82 => ⟨S1792x18944, .i32⟩
  | 83 => ⟨S1792x18944, .bf16⟩
  | 84 => ⟨S28x64x18944, .bf16⟩
  | 85 => ⟨S28x1x18944, .bf16⟩
  | 86 => ⟨S28x64x18944, .bf16⟩
  | 87 => ⟨S28x64x18944, .bf16⟩
  | 88 => ⟨S1792x18944, .bf16⟩
  | 89 => ⟨S6x256x1792, .i8⟩
  | 90 => ⟨S6x256x1792, .i32⟩
  | 91 => ⟨S6x256x1792, .bf16⟩
  | 92 => ⟨S6x256x1792, .i8⟩
  | 93 => ⟨S6x256x1792, .i32⟩
  | 94 => ⟨S6x256x1792, .bf16⟩
  | 95 => ⟨S6x256x18944, .f32⟩
  | 96 => ⟨S6x256x18944, .f32⟩
  | 97 => ⟨S6x256x18944, .f32⟩
  | 98 => ⟨S6x256x1, .f32⟩
  | 99 => ⟨S6x256x18944, .f32⟩
  | 100 => ⟨S6x256x18944, .f32⟩
  | 101 => ⟨S_, .f32⟩
  | 102 => ⟨S18944, .f32⟩
  | 103 => ⟨S_, .f32⟩
  | 104 => ⟨S18944, .f32⟩
  | 105 => ⟨S18944, .f32⟩
  | 106 => ⟨S1x1x18944, .f32⟩
  | 107 => ⟨S6x256x18944, .f32⟩
  | 108 => ⟨S6x256x18944, .f32⟩
  | 109 => ⟨S6x256x18944, .f32⟩
  | 110 => ⟨S_, .f32⟩
  | 111 => ⟨S18944, .f32⟩
  | 112 => ⟨S_, .f32⟩
  | 113 => ⟨S18944, .f32⟩
  | 114 => ⟨S18944, .f32⟩
  | 115 => ⟨S_, .f32⟩
  | 116 => ⟨S18944, .f32⟩
  | 117 => ⟨S_, .f32⟩
  | 118 => ⟨S18944, .f32⟩
  | 119 => ⟨S18944, .f32⟩
  | 120 => ⟨S1x1x18944, .f32⟩
  | 121 => ⟨S6x256x18944, .f32⟩
  | 122 => ⟨S6x256x18944, .f32⟩
  | 123 => ⟨S6x256x18944, .f32⟩
  | 124 => ⟨S_, .f32⟩
  | 125 => ⟨S18944, .f32⟩
  | 126 => ⟨S_, .f32⟩
  | 127 => ⟨S18944, .f32⟩
  | _ => ⟨S6x256x3584, .bf16⟩

abbrev hbmTy0_1 (i : Nat) : BufTy := match i % 128 with
  | 0 => ⟨S18944, .f32⟩
  | 1 => ⟨S18944, .f32⟩
  | 2 => ⟨S18944, .f32⟩
  | 3 => ⟨S18944, .f32⟩
  | 4 => ⟨S18944, .f32⟩
  | 5 => ⟨S18944, .f32⟩
  | 6 => ⟨S_, .f32⟩
  | 7 => ⟨S18944, .f32⟩
  | 8 => ⟨S18944, .f32⟩
  | 9 => ⟨S_, .f32⟩
  | 10 => ⟨S18944, .f32⟩
  | 11 => ⟨S18944, .f32⟩
  | 12 => ⟨S18944, .f32⟩
  | 13 => ⟨S18944, .f32⟩
  | 14 => ⟨S_, .f32⟩
  | 15 => ⟨S18944, .f32⟩
  | 16 => ⟨S18944, .f32⟩
  | 17 => ⟨S18944, .f32⟩
  | 18 => ⟨S18944, .f32⟩
  | 19 => ⟨S_, .f32⟩
  | 20 => ⟨S18944, .f32⟩
  | 21 => ⟨S18944, .f32⟩
  | 22 => ⟨S_, .f32⟩
  | 23 => ⟨S18944, .f32⟩
  | 24 => ⟨S18944, .f32⟩
  | 25 => ⟨S_, .f32⟩
  | 26 => ⟨S18944, .f32⟩
  | 27 => ⟨S18944, .f32⟩
  | 28 => ⟨S18944, .f32⟩
  | 29 => ⟨S_, .f32⟩
  | 30 => ⟨S18944, .f32⟩
  | 31 => ⟨S18944, .f32⟩
  | 32 => ⟨S18944, .f32⟩
  | 33 => ⟨S18944, .f32⟩
  | 34 => ⟨S_, .f32⟩
  | 35 => ⟨S18944, .f32⟩
  | 36 => ⟨S18944, .f32⟩
  | 37 => ⟨S1x1x18944, .f32⟩
  | 38 => ⟨S6x256x18944, .f32⟩
  | 39 => ⟨S6x256x18944, .f32⟩
  | 40 => ⟨S_, .f32⟩
  | 41 => ⟨S6x256x18944, .f32⟩
  | 42 => ⟨S6x256x18944, .f32⟩
  | 43 => ⟨S1x1x18944, .f32⟩
  | 44 => ⟨S6x256x18944, .f32⟩
  | 45 => ⟨S6x256x18944, .f32⟩
  | 46 => ⟨S1x1x18944, .f32⟩
  | 47 => ⟨S6x256x18944, .f32⟩
  | 48 => ⟨S6x256x18944, .f32⟩
  | 49 => ⟨S_, .f32⟩
  | 50 => ⟨S6x256x18944, .f32⟩
  | 51 => ⟨S6x256x18944, .f32⟩
  | 52 => ⟨S6x256x18944, .bf16⟩
  | 53 => ⟨S6x256x1792, .f32⟩
  | 54 => ⟨S6x256x1792, .f32⟩
  | 55 => ⟨S6x256x1792x1, .f32⟩
  | 56 => ⟨S6x256x1792x1, .f32⟩
  | 57 => ⟨S6x256x1792x2, .f32⟩
  | 58 => ⟨S6x256x3584, .f32⟩
  | 59 => ⟨S6x256x3584, .f32⟩
  | 60 => ⟨S_, .f32⟩
  | 61 => ⟨S3584, .f32⟩
  | _ => ⟨S6x256x3584, .bf16⟩

abbrev hbmTy (i : Nat) : BufTy := match i / 128 with
  | 0 => hbmTy0_0 i
  | 1 => hbmTy0_1 i
  | _ => ⟨S6x256x3584, .bf16⟩

abbrev bufTy : (tb : Table) → Fin (tcTables nBuf tb) → BufTy
  | .hbm, ⟨i, _⟩ => hbmTy i
  | _, _ => ⟨S6x256x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_cst_7 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_c_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_cst_14 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_15 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_21 : Ref sig .tc := ⟨.hbm, 134, rfl⟩
abbrev main_v98 : Ref sig .tc := ⟨.hbm, 135, rfl⟩
abbrev main_v99 : Ref sig .tc := ⟨.hbm, 136, rfl⟩
abbrev main_cst_22 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_23 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_24 : Ref sig .tc := ⟨.hbm, 147, rfl⟩
abbrev main_v108 : Ref sig .tc := ⟨.hbm, 148, rfl⟩
abbrev main_v109 : Ref sig .tc := ⟨.hbm, 149, rfl⟩
abbrev main_cst_25 : Ref sig .tc := ⟨.hbm, 150, rfl⟩
abbrev main_v110 : Ref sig .tc := ⟨.hbm, 151, rfl⟩
abbrev main_v111 : Ref sig .tc := ⟨.hbm, 152, rfl⟩
abbrev main_cst_26 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_27 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_28 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_29 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_30 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_31 : Ref sig .tc := ⟨.hbm, 188, rfl⟩
abbrev main_v142 : Ref sig .tc := ⟨.hbm, 189, rfl⟩

abbrev nD : Nat := 1
abbrev τ : Topo := Topo.v7x

variable {F : FTy → Type} [FloatOps F]
-- ==== Proof.Frames.lean ====
/- The frames of the three programs and the conjunct about the named constant. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.SL.Sem

/-- The kernel, at bit patterns, terminates with its arguments unchanged and every semaphore counter at zero. -/
theorem frame_p : Cert.quiescent_Kernel := fun m ρ _ => Cert.Kernel.Gen.frame m ρ

/-- The idealized kernel terminates with its arguments unchanged and every semaphore counter at zero. -/
theorem frame_pi : Cert.quiescent_KernelIdeal := fun m ρ _ => Cert.KernelIdeal.Gen.frame m ρ

/-- The reference terminates with its arguments unchanged; it declares no semaphore. -/
theorem frame_ri : Cert.quiescent_ReferenceIdeal := by
  intro m ρ _
  exact (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

/-- The literal the kernel multiplies its column sums by is the `f32` nearest to 1/1536. -/
theorem preserves : Cert.preserves_Kernel_KernelIdeal :=
  IdealRules.named_const.statement Cert.KernelIdeal.κ "inv_n" .f32 0x3A2AAAAB#32 ((1 / 1536 : ℝ) : EReal) rfl

end Cert.Proof

end
-- ==== Proof.Model.lean ====
/- The layer's mathematics over coordinates, the language in which the kernel and the reference are compared. Everything is over the
   extended reals, in which the conversions between float formats are the identity. Rows of activations are functions of the feature
   `d : Fin 3584`, columns of the layer's output are functions of the token `r : Fin 1536`. -/
module

public import Idealize.ShloMosaic.PureOps.Ideal.Laws
public import Idealize.ShloMosaic.Lib.Pointwise

@[expose] public section

set_option maxRecDepth 16384

noncomputable section

open Idealize.ShloMosaic

namespace Cert.Model

/-- One over the root mean square of a row: `rsqrt (Σ x² / 3584 + 1e-6)`. -/
def rstd (x : Fin 3584 → EReal) : EReal :=
  Ideal.rsqrt (Ideal.div (∑ d, x d * x d) (Ideal.ofBits .f32 1163919360#32) + Ideal.ofBits .f32 897988541#32)

/-- The normalized row. -/
def nrm (x : Fin 3584 → EReal) (d : Fin 3584) : EReal := x d * rstd x

/-- The normalized row times a gain. -/
def hgt (x g : Fin 3584 → EReal) (d : Fin 3584) : EReal := nrm x d * g d

/-- The largest absolute value of a row of `hgt`. -/
def amax (x g : Fin 3584 → EReal) : EReal :=
  Finset.fold max (Ideal.ofBits .f32 4286578688#32) (fun d => FloatOps.absf (F := Ideal) (φ := .f32) (hgt x g d)) Finset.univ

/-- The activation scale of a row: `amax / 127`, or 1 for a zero row. -/
def sA (x g : Fin 3584 → EReal) : EReal :=
  if 0 < amax x g then Ideal.div (amax x g) (Ideal.ofBits .f32 1123942400#32) else 1

/-- The rounded and clipped quotient of a row and its scale, before the conversion to an integer. -/
def q (x g : Fin 3584 → EReal) (d : Fin 3584) : EReal :=
  min (Ideal.ofBits .f32 1123942400#32) (max (Ideal.ofBits .f32 3271426048#32)
    (Ideal.liftRound Ideal.roundHalfEven (Ideal.div (hgt x g d) (sA x g))))

/-- The int8 code of an activation. -/
def code (x g : Fin 3584 → EReal) (d : Fin 3584) : BitVec 8 := FloatOps.fptosi (F := Ideal) (φ := .f32) 8 (q x g d)

/-- The signed value of the low (`b = 0`) or high (`b = 1`) four bits of a byte. -/
def nib (b : Fin 2) (w : BitVec 8) : EReal := ((((BitVec.extractLsb' (4 * b.val) 4 w).toInt : ℤ) : ℝ) : EReal)

/-- One column of the dequantized weight: feature `d` is the nibble `d % 2` of packed row `d / 2`, times the scale of group `d / 128`. -/
def wq (p : Fin 1792 → BitVec 8) (s : Fin 28 → EReal) (d : Fin 3584) : EReal :=
  nib ⟨d.val % 2, by omega⟩ (p ⟨d.val / 2, by omega⟩) * s ⟨d.val / 128, by omega⟩

/-- A column of the full-precision output. -/
def yf (h : Fin 1536 → Fin 3584 → EReal) (w : Fin 3584 → EReal) (r : Fin 1536) : EReal := ∑ d, h r d * w d

/-- A column of the quantized output. -/
def yq (a : Fin 1536 → Fin 3584 → EReal) (s : Fin 1536 → EReal) (w : Fin 3584 → EReal) (r : Fin 1536) : EReal :=
  (∑ d, a r d * w d) * s r

/-- The mean of a column over the tokens. -/
def mean (y : Fin 1536 → EReal) : EReal := (∑ r, y r) * ((1 / 1536 : ℝ) : EReal)

/-- The variance of a column over the tokens. -/
def var (y : Fin 1536 → EReal) : EReal := (∑ r, (y r - mean y) * (y r - mean y)) * ((1 / 1536 : ℝ) : EReal)

/-- `var f + (mean f − mean q)²`. -/
def num (f q : Fin 1536 → EReal) : EReal := var f + (mean f - mean q) * (mean f - mean q)

/-- The divergence of a column: `½ log (var q / var f) + num / (2 var q) − ½`. -/
def kl (f q : Fin 1536 → EReal) : EReal :=
  Ideal.ofBits .f32 1056964608#32 * Ideal.log (Ideal.div (var q) (var f))
    + Ideal.div (num f q) (Ideal.ofBits .f32 1073741824#32 * var q) - Ideal.ofBits .f32 1056964608#32

/-- The gradient of the divergence in a column of the quantized output. -/
def dy (f q : Fin 1536 → EReal) (r : Fin 1536) : EReal :=
  Ideal.div
    (Ideal.div (Ideal.div (mean q - mean f) (var q)) (Ideal.ofBits .f32 1184104448#32)
      + Ideal.ofBits .f32 1073741824#32 * (q r - mean q)
        * Ideal.div (Ideal.div 1 (Ideal.ofBits .f32 1073741824#32 * var q)
            - Ideal.div (num f q) (Ideal.ofBits .f32 1073741824#32 * (var q * var q)))
          (Ideal.ofBits .f32 1184104448#32))
    (Ideal.ofBits .f32 1153433600#32)

/-! ## The results, over the arguments -/

variable (x : Fin 1536 → Fin 3584 → EReal) (g0 g : Fin 3584 → EReal) (wr : Fin 3584 → Fin 18944 → EReal)
  (wp : Fin 1792 → Fin 18944 → BitVec 8) (ws : Fin 28 → Fin 18944 → EReal)

/-- Column `o` of the full-precision output. -/
def YF (o : Fin 18944) : Fin 1536 → EReal := yf (fun r d => hgt (x r) g0 d) (fun d => wr d o)

/-- Column `o` of the dequantized weight. -/
def WQ (o : Fin 18944) : Fin 3584 → EReal := wq (fun k => wp k o) (fun k => ws k o)

/-- Column `o` of the quantized output. -/
def YQ (o : Fin 18944) : Fin 1536 → EReal := yq (fun r d => q (x r) g d) (fun r => sA (x r) g) (WQ wp ws o)

/-- The divergence of column `o`. -/
def KL (o : Fin 18944) : EReal := kl (YF x g0 wr o) (YQ x g wp ws o)

/-- The gradient of the divergence in the output. -/
def DY (r : Fin 1536) (o : Fin 18944) : EReal := dy (YF x g0 wr o) (YQ x g wp ws o) r

/-- The gradient in the activations. -/
def DH (r : Fin 1536) (d : Fin 3584) : EReal := ∑ o, DY x g0 g wr wp ws r o * WQ wp ws o d

/-- The gradient in the gain. -/
def DGAMMA (d : Fin 3584) : EReal := ∑ r, DH x g0 g wr wp ws r d * nrm (x r) d

end Cert.Model

end
-- ==== Proof.Results.lean ====
/- The five results as arrays. -/
module
public import proofs.«01_k».proof.Proof.Model
@[expose] public section
noncomputable section
open Idealize.ShloMosaic Idealize.ShloMosaic.TcCoe Idealize.SL.Sem
namespace Cert.Model

/-! # The five results as arrays, over the six argument arrays

Token `r` of 1536 is position `r % 256` of sequence `r / 256`. -/

variable (x0 : FVec Ideal ⟨3, ![6, 256, 3584]⟩ .bf16) (x1 x2 : FVec Ideal ⟨1, ![3584]⟩ .f32)
  (x3 : FVec Ideal ⟨2, ![3584, 18944]⟩ .bf16) (x4 : Vec Ideal ⟨2, ![1792, 18944]⟩ .i8)
  (x5 : FVec Ideal ⟨2, ![28, 18944]⟩ .f32)

/-- The activations by token. -/
def ax (r : Fin 1536) (d : Fin 3584) : EReal := x0 (ix3 ⟨r.val / 256, by omega⟩ ⟨r.val % 256, by omega⟩ d)
/-- A gain by feature. -/
def ag (d : Fin 3584) : EReal := x1 (ix1 d)
/-- The reference weight by feature and output. -/
def ar (d : Fin 3584) (o : Fin 18944) : EReal := x3 (ix2 d o)
/-- The packed weight. -/
def ap (k : Fin 1792) (o : Fin 18944) : BitVec 8 := x4 (ix2 k o)
/-- The weight's scales. -/
def asc (k : Fin 28) (o : Fin 18944) : EReal := x5 (ix2 k o)

/-- Token number of position `s` of sequence `b`. -/
def tok (b : Fin 6) (s : Fin 256) : Fin 1536 := ⟨b.val * 256 + s.val, by omega⟩

/-- Token `b * 256 + s` is position `s` of sequence `b`. -/
theorem ax_tok (b : Fin 6) (s : Fin 256) (d : Fin 3584) : ax x0 (tok b s) d = x0 (ix3 b s d) := by
  unfold ax
  refine congrArg x0 (congrArg₂ (fun b s => ix3 b s d) (Fin.ext ?_) (Fin.ext ?_))
  · show (b.val * 256 + s.val) / 256 = b.val; omega
  · show (b.val * 256 + s.val) % 256 = s.val; omega

/-- The divergences. -/
def resKL : FVec Ideal ⟨1, ![18944]⟩ .f32 := fun i => KL (ax x0) (ag x1) (ag x2) (ar x3) (ap x4) (asc x5) (i 0)
/-- The gradient in the gain. -/
def resDG : FVec Ideal ⟨1, ![3584]⟩ .f32 := fun i => DGAMMA (ax x0) (ag x1) (ag x2) (ar x3) (ap x4) (asc x5) (i 0)
/-- The gradient in the activations. -/
def resDH : FVec Ideal ⟨3, ![6, 256, 3584]⟩ .f32 :=
  fun i => DH (ax x0) (ag x1) (ag x2) (ar x3) (ap x4) (asc x5) (tok (i 0) (i 1)) (i 2)
/-- The activation codes. -/
def resCode : Vec Ideal ⟨3, ![6, 256, 3584]⟩ .i8 := fun i => code (ax x0 (tok (i 0) (i 1))) (ag x2) (i 2)
/-- The activation scales. -/
def resScale : FVec Ideal ⟨2, ![6, 256]⟩ .f32 := fun i => sA (ax x0 (tok (i 0) (i 1))) (ag x2)

end Cert.Model
-- ==== Proof.Act.lean ====
/- The first launch: activations normalized, scaled, rounded. -/
module
public import proofs.«01_k».proof.Proof.Model
public import proofs.«01_k».proof.Proof.Gen.KernelIdeal.Frame
public import Idealize.ShloMosaic.Lib.Pipeline.ValueKit
set_option maxRecDepth 16384
@[expose] public section
noncomputable section
open Idealize.ShloMosaic Idealize.ShloMosaic.TcCoe Idealize.SL.Sem
open Idealize.ShloMosaic.Pipeline (Dat)
namespace Cert.KernelIdeal.Act
open Cert.KernelIdeal Cert.KernelIdeal.Gen Cert.Model

/-! ### The blocks of the activation launch, as functions of the row they hold -/

/-- The reciprocal norm the first launch computes for a row. -/
theorem pay5 (x : FVec Ideal S128x3584 .bf16) (r : Fin 128) :
   k0_pay5 (F := Ideal) x (ix2 r 0) = rstd (fun d => x (ix2 r d)) := by
  pointwise [k0_pay5, k0_pay4, rstd]
/-- The normalized row it computes. -/
theorem pay6 (x : FVec Ideal S128x3584 .bf16) (r : Fin 128) (d : Fin 3584) :
   k0_pay6 (F := Ideal) x (ix2 r d) = nrm (fun d => x (ix2 r d)) d := by
  pointwise [k0_pay6, k0_pay4, nrm, pay5]
/-- The normalized row times the reference gain, as stored. -/
theorem pay7 (x : FVec Ideal S128x3584 .bf16) (g : FVec Ideal S1x3584 .f32) (r : Fin 128) (d : Fin 3584) :
   k0_pay7 (F := Ideal) x g (ix2 r d) = hgt (fun d => x (ix2 r d)) (fun d => g (ix2 0 d)) d := by
  pointwise [k0_pay7, hgt, pay6]
/-- The normalized row times the quantized gain. -/
theorem pay8 (x : FVec Ideal S128x3584 .bf16) (g : FVec Ideal S1x3584 .f32) (r : Fin 128) (d : Fin 3584) :
   k0_pay8 (F := Ideal) x g (ix2 r d) = hgt (fun d => x (ix2 r d)) (fun d => g (ix2 0 d)) d := by
  pointwise [k0_pay8, hgt, pay6]
/-- The scale it computes for a row. -/
theorem pay9 (x : FVec Ideal S128x3584 .bf16) (g : FVec Ideal S1x3584 .f32) (r : Fin 128) :
   k0_pay9 (F := Ideal) x g (ix2 r 0) = sA (fun d => x (ix2 r d)) (fun d => g (ix2 0 d)) := by
  pointwise [k0_pay9, sA, amax, pay8]
/-- The rounded and clipped quotient of a row by its scale. -/
theorem pay10 (x : FVec Ideal S128x3584 .bf16) (g : FVec Ideal S1x3584 .f32) (r : Fin 128) (d : Fin 3584) :
   k0_pay10 (F := Ideal) x g (ix2 r d) = q (fun d => x (ix2 r d)) (fun d => g (ix2 0 d)) d := by
  pointwise [k0_pay10, q, pay8, pay9]
/-- The same quotient, as stored for the product with the weight. -/
theorem pay11 (x : FVec Ideal S128x3584 .bf16) (g : FVec Ideal S1x3584 .f32) (r : Fin 128) (d : Fin 3584) :
   k0_pay11 (F := Ideal) x g (ix2 r d) = q (fun d => x (ix2 r d)) (fun d => g (ix2 0 d)) d := by
  pointwise [k0_pay11, pay10]
/-- The code stored for an activation. -/
theorem pay1 (x : FVec Ideal S128x3584 .bf16) (g : FVec Ideal S1x3584 .f32) (r : Fin 128) (d : Fin 3584) :
   k0_pay1 (F := Ideal) (k0_pay10 x g) (ix2 r d) = code (fun d => x (ix2 r d)) (fun d => g (ix2 0 d)) d := by
  pointwise [k0_pay1, pay10, code]
/-- The scale of a row, in every lane. -/
theorem pay2 (x : FVec Ideal S128x3584 .bf16) (g : FVec Ideal S1x3584 .f32) (r : Fin 128) (l : Fin 128) :
   k0_pay2 (F := Ideal) (k0_pay9 x g) (ix2 r l) = sA (fun d => x (ix2 r d)) (fun d => g (ix2 0 d)) := by
  pointwise [k0_pay2, pay9]
/-- The reciprocal norm of a row, in every lane. -/
theorem pay3 (x : FVec Ideal S128x3584 .bf16) (r : Fin 128) (l : Fin 128) :
   k0_pay3 (F := Ideal) (k0_pay5 x) (ix2 r l) = rstd (fun d => x (ix2 r d)) := by
  pointwise [k0_pay3, pay5]

/-! ### The five arrays the launch leaves -/

section
variable (X : FVec Ideal S1536x3584 .bf16) (G : FVec Ideal S1x3584 .f32)

/-- The gated rows for the reference weights. -/
def HF : FVec Ideal S1536x3584 .bf16 :=
  fun i => hgt (fun d => X (ix2 (i 0) d)) (fun d => G (ix2 0 d)) (i 1)
/-- The quantized rows, as numbers. -/
def QA : FVec Ideal S1536x3584 .bf16 :=
  fun i => q (fun d => X (ix2 (i 0) d)) (fun d => G (ix2 0 d)) (i 1)
/-- The quantized rows, as codes. -/
def CD : Vec Ideal S1536x3584 .i8 :=
  fun i => code (fun d => X (ix2 (i 0) d)) (fun d => G (ix2 0 d)) (i 1)
/-- The scale of each row, once per lane. -/
def SC : FVec Ideal S1536x128 .f32 :=
  fun i => sA (fun d => X (ix2 (i 0) d)) (fun d => G (ix2 0 d))
/-- The reciprocal norm of each row, once per lane. -/
def RS : FVec Ideal S1536x128 .f32 :=
  fun i => rstd (fun d => X (ix2 (i 0) d))
end

/-- Which block each window of the first launch is at, at every grid point. -/
theorem idx : ∀ t : Fin cfg0.N, win0_0.index t = ![t.val, 0] ∧ win0_1.index t = ![0, 0] ∧
    win0_2.index t = ![0, 0] ∧ win0_3.index t = ![t.val, 0] ∧ win0_4.index t = ![t.val, 0] ∧
    win0_5.index t = ![t.val, 0] ∧ win0_6.index t = ![t.val, 0] ∧ win0_7.index t = ![t.val, 0] :=
  (by decide +kernel : ∀ t : Fin grid0.N, _)

variable (V : (c : Dev nD) → (b : Ref sig .tc) → Buf (Elt Ideal) ((c : Thread nD τ).loc b)) (c : Dev nD)

/-- Row `r` of the block of activations at point `t` is row `128 t + r` of the array. -/
theorem blk_x (t : Fin cfg0.N) (r : Fin 128) (R : Fin 1536) (hR : R.val = t.val * 128 + r.val) :
    (fun d => iblk0 V c 0 t (ix2 r d)) = fun d => V c main_v0 (ix2 R d) := by
  funext d; blk_ext [iblk0, idx t]
/-- The staged reference gain is the whole gain. -/
theorem blk_g0 (t : Fin cfg0.N) :
    (fun d => iblk0 V c 1 t (ix2 0 d)) = fun d => V c main_v1 (ix2 0 d) := by
  funext d; blk_ext [iblk0, idx t]
/-- The staged quantized gain is the whole gain. -/
theorem blk_g (t : Fin cfg0.N) :
    (fun d => iblk0 V c 2 t (ix2 0 d)) = fun d => V c main_v2 (ix2 0 d) := by
  funext d; blk_ext [iblk0, idx t]

/-- The launch leaves the gated rows for the reference weights. -/
theorem arr3 : (dat0 V c).arrAt 3 cfg0.N = HF (V c main_v0) (V c main_v1) := by
  refine (dat0 V c).arrAt_eq_of_covers 3 _ (by decide +kernel) fun t _ y => ?_
  blk_simp
  rw [after0_3]
  frame_out
  have ht : t.val < 12 := t.isLt
  obtain ⟨r, d, rfl⟩ : ∃ (r : Fin 128) (d : Fin 3584), y = ix2 r d := ⟨y 0, y 1, by blk_ext []⟩
  have he : (((View.whole main_v3_0).slice (win0_3.rect t)).emb (ix2 r d)) =
      ix2 (⟨t.val * 128 + r.val, by omega⟩ : Fin 1536) d := by blk_ext [idx t]
  refine Eq.trans ?_ (congrArg (HF (V c main_v0) (V c main_v1)) he).symm
  rw [pay7, blk_x V c t r ⟨t.val * 128 + r.val, by omega⟩ rfl, blk_g0]
  rfl
/-- The launch leaves the quantized rows. -/
theorem arr4 : (dat0 V c).arrAt 4 cfg0.N = QA (V c main_v0) (V c main_v2) := by
  refine (dat0 V c).arrAt_eq_of_covers 4 _ (by decide +kernel) fun t _ y => ?_
  blk_simp
  rw [after0_4]
  frame_out
  have ht : t.val < 12 := t.isLt
  obtain ⟨r, d, rfl⟩ : ∃ (r : Fin 128) (d : Fin 3584), y = ix2 r d := ⟨y 0, y 1, by blk_ext []⟩
  have he : (((View.whole main_v3_1).slice (win0_4.rect t)).emb (ix2 r d)) =
      ix2 (⟨t.val * 128 + r.val, by omega⟩ : Fin 1536) d := by blk_ext [idx t]
  refine Eq.trans ?_ (congrArg (QA (V c main_v0) (V c main_v2)) he).symm
  rw [pay11, blk_x V c t r ⟨t.val * 128 + r.val, by omega⟩ rfl, blk_g]
  rfl
/-- The launch leaves the codes. -/
theorem arr5 : (dat0 V c).arrAt 5 cfg0.N = CD (V c main_v0) (V c main_v2) := by
  refine (dat0 V c).arrAt_eq_of_covers 5 _ (by decide +kernel) fun t _ y => ?_
  blk_simp
  rw [after0_5]
  frame_out
  have ht : t.val < 12 := t.isLt
  obtain ⟨r, d, rfl⟩ : ∃ (r : Fin 128) (d : Fin 3584), y = ix2 r d := ⟨y 0, y 1, by blk_ext []⟩
  have he : (((View.whole main_v3_2).slice (win0_5.rect t)).emb (ix2 r d)) =
      ix2 (⟨t.val * 128 + r.val, by omega⟩ : Fin 1536) d := by blk_ext [idx t]
  refine Eq.trans ?_ (congrArg (CD (V c main_v0) (V c main_v2)) he).symm
  rw [pay1, blk_x V c t r ⟨t.val * 128 + r.val, by omega⟩ rfl, blk_g]
  rfl
/-- The launch leaves the scales. -/
theorem arr6 : (dat0 V c).arrAt 6 cfg0.N = SC (V c main_v0) (V c main_v2) := by
  refine (dat0 V c).arrAt_eq_of_covers 6 _ (by decide +kernel) fun t _ y => ?_
  blk_simp
  rw [after0_6]
  frame_out
  have ht : t.val < 12 := t.isLt
  obtain ⟨r, d, rfl⟩ : ∃ (r : Fin 128) (d : Fin 128), y = ix2 r d := ⟨y 0, y 1, by blk_ext []⟩
  have he : (((View.whole main_v3_3).slice (win0_6.rect t)).emb (ix2 r d)) =
      ix2 (⟨t.val * 128 + r.val, by omega⟩ : Fin 1536) d := by blk_ext [idx t]
  refine Eq.trans ?_ (congrArg (SC (V c main_v0) (V c main_v2)) he).symm
  rw [pay2, blk_x V c t r ⟨t.val * 128 + r.val, by omega⟩ rfl, blk_g]
  rfl
/-- The launch leaves the reciprocal norms. -/
theorem arr7 : (dat0 V c).arrAt 7 cfg0.N = RS (V c main_v0) := by
  refine (dat0 V c).arrAt_eq_of_covers 7 _ (by decide +kernel) fun t _ y => ?_
  blk_simp
  rw [after0_7]
  frame_out
  have ht : t.val < 12 := t.isLt
  obtain ⟨r, d, rfl⟩ : ∃ (r : Fin 128) (d : Fin 128), y = ix2 r d := ⟨y 0, y 1, by blk_ext []⟩
  have he : (((View.whole main_v3_4).slice (win0_7.rect t)).emb (ix2 r d)) =
      ix2 (⟨t.val * 128 + r.val, by omega⟩ : Fin 1536) d := by blk_ext [idx t]
  refine Eq.trans ?_ (congrArg (RS (V c main_v0)) he).symm
  rw [pay3, blk_x V c t r ⟨t.val * 128 + r.val, by omega⟩ rfl]
  rfl
end Cert.KernelIdeal.Act
-- ==== Proof.Scalars.lean ====
/- The scalar facts that the comparison of the kernel with the reference rests on: the codes are integers between −127 and 127, so every
   conversion between them and numbers is exact; the kernel's way of taking a nibble out of a byte (through the bits of a bf16 number
   between 128 and 144) and the reference's (through integers) give the same number; and a mean as a product with 1/1536 is a mean as a
   quotient by 1536. -/
module

public import proofs.«01_k».proof.Proof.Model

@[expose] public section

set_option maxRecDepth 16384

noncomputable section

open Idealize.ShloMosaic

namespace Cert.Model

/-- The bits of the constant 127. -/
theorem ofBits_127 : Ideal.ofBits .f32 1123942400#32 = ((127 : ℝ) : EReal) := by
  simp [Ideal.ofBits, Ideal.ieee, -EReal.coe_mul]; norm_num

/-- The bits of the constant −127. -/
theorem ofBits_neg127 : Ideal.ofBits .f32 3271426048#32 = ((-127 : ℝ) : EReal) := by
  simp [Ideal.ofBits, Ideal.ieee, -EReal.coe_mul]; norm_num

/-- The bits of the constant 1536. -/
theorem ofBits_1536 : Ideal.ofBits .f32 1153433600#32 = ((1536 : ℝ) : EReal) := by
  simp [Ideal.ofBits, Ideal.ieee, -EReal.coe_mul]; norm_num

/-- A quotient by 1536 is a product with 1/1536. -/
theorem div_1536 (s : EReal) : Ideal.div s (Ideal.ofBits .f32 1153433600#32) = s * ((1 / 1536 : ℝ) : EReal) := by
  rw [ofBits_1536]; exact Ideal.div_coe (by norm_num : (1536 : ℝ) ≠ 0) s

/-- A rounded and clipped number is an integer between −127 and 127. -/
theorem clip_int (y : EReal) : ∃ n : ℤ, -127 ≤ n ∧ n ≤ 127 ∧
    min (Ideal.ofBits .f32 1123942400#32) (max (Ideal.ofBits .f32 3271426048#32) (Ideal.liftRound Ideal.roundHalfEven y)) = ((n : ℝ) : EReal) := by
  rw [ofBits_127, ofBits_neg127]
  induction y using EReal.rec with
  | bot =>
    refine ⟨-127, by norm_num, by norm_num, ?_⟩
    rw [Ideal.liftRound_bot, max_eq_left bot_le, min_eq_right (by exact_mod_cast (by norm_num : (-127 : ℝ) ≤ 127))]
    norm_num
  | top =>
    refine ⟨127, by norm_num, by norm_num, ?_⟩
    rw [Ideal.liftRound_top, max_eq_right le_top, min_eq_left le_top]
    norm_num
  | coe r =>
    refine ⟨min 127 (max (-127) (Ideal.roundHalfEven r)), by omega, by omega, ?_⟩
    rw [Ideal.liftRound_coe, ← EReal.coe_strictMono.monotone.map_max, ← EReal.coe_strictMono.monotone.map_min]
    push_cast
    rfl

/-- The conversion of such an integer to a signed word of `w` bits is the integer's word. -/
theorem fptosi_int (w : Nat) (hw : w = 8 ∨ w = 32) (n : ℤ) (h0 : -127 ≤ n) (h1 : n ≤ 127) :
    Ideal.fptosi w ((n : ℝ) : EReal) = BitVec.ofInt w n := by
  unfold Ideal.fptosi
  rw [Ideal.toIntClamped_coe]
  congr 1
  rw [Int.floor_intCast, Int.ceil_intCast, ite_self]
  rcases hw with rfl | rfl
  · norm_num; omega
  · norm_num; omega

/-- The low eight bits of the 32-bit code are the 8-bit code. -/
theorem ofInt_setWidth (n : ℤ) : (BitVec.ofInt 32 n).setWidth 8 = BitVec.ofInt 8 n := by
  apply BitVec.eq_of_toNat_eq
  simp only [BitVec.toNat_setWidth, BitVec.toNat_ofInt]
  omega

/-- An 8-bit code widened with its sign is the integer. -/
theorem toInt_code (n : ℤ) (h0 : -127 ≤ n) (h1 : n ≤ 127) : ((BitVec.ofInt 8 n).signExtend 32).toInt = n := by
  rw [BitVec.toInt_signExtend_of_le (by decide), BitVec.toInt_ofInt, Int.bmod_def]
  omega

/-- A rounded and clipped activation is an integer between −127 and 127. -/
theorem q_int (x g : Fin 3584 → EReal) (d : Fin 3584) : ∃ n : ℤ, -127 ≤ n ∧ n ≤ 127 ∧ q x g d = ((n : ℝ) : EReal) :=
  clip_int _

/-- The reference's code, a 32-bit integer cut to 8 bits, is the kernel's. -/
theorem code_eq (x g : Fin 3584 → EReal) (d : Fin 3584) : (Ideal.fptosi 32 (q x g d)).setWidth 8 = code x g d := by
  obtain ⟨n, h0, h1, h⟩ := q_int x g d
  show _ = Ideal.fptosi 8 (q x g d)
  rw [h, fptosi_int 32 (.inr rfl) n h0 h1, fptosi_int 8 (.inl rfl) n h0 h1, ofInt_setWidth]

/-- A code read back as a number is the number it was made from. -/
theorem code_toInt (x g : Fin 3584 → EReal) (d : Fin 3584) : ((((code x g d).signExtend 32).toInt : ℝ) : EReal) = q x g d := by
  obtain ⟨n, h0, h1, h⟩ := q_int x g d
  have : code x g d = BitVec.ofInt 8 n := by
    show Ideal.fptosi 8 (q x g d) = _
    rw [h, fptosi_int 8 (.inl rfl) n h0 h1]
  rw [this, toInt_code n h0 h1, h]

/-- The bf16 number whose bits are `0x4308` with the nibble flipped in, less 136, is the nibble's signed value. -/
theorem bf16_nib : ∀ n : BitVec 4,
    Ideal.ofBits .bf16 (n.setWidth 16 ^^^ 17160#16) - Ideal.ofBits .bf16 17160#16 = (((n.toInt : ℤ) : ℝ) : EReal) := by
  intro n
  have hn : ∀ k : Fin 16, Ideal.ofBits .bf16 ((BitVec.ofFin k : BitVec 4).setWidth 16 ^^^ 17160#16) - Ideal.ofBits .bf16 17160#16
      = ((((BitVec.ofFin k : BitVec 4).toInt : ℤ) : ℝ) : EReal) := by
    intro k
    fin_cases k <;>
      simp [Ideal.ofBits, Ideal.ieee, -EReal.coe_mul, BitVec.toInt] <;>
      norm_cast <;> norm_num
  exact hn n.toFin

/-- The 32-bit word the kernel makes of a byte: the two nibbles in its two halves, each flipped into `0x4308`. -/
def word (w : BitVec 8) : BitVec 32 := ((w.setWidth 32 ||| (w.setWidth 32 <<< (12 : Nat))) &&& 983055#32) ^^^ 1124614920#32

/-- Half `b` of the spread word is nibble `b` combined, bit by bit, with the bits of the `bf16` number 136. -/
theorem word_half (b : Fin 2) (w : BitVec 8) :
    BitVec.extractLsb' (16 * b.val) 16 (word w) = (BitVec.extractLsb' (4 * b.val) 4 w).setWidth 16 ^^^ 17160#16 := by
  have h : ∀ (b : Fin 2) (k : Fin 256), BitVec.extractLsb' (16 * b.val) 16 (word (BitVec.ofFin k))
      = (BitVec.extractLsb' (4 * b.val) 4 (BitVec.ofFin k : BitVec 8)).setWidth 16 ^^^ 17160#16 := by decide +kernel
  exact h b w.toFin

/-- The kernel's nibble. -/
theorem kernel_nib (b : Fin 2) (w : BitVec 8) :
    Ideal.ofBits .bf16 (BitVec.extractLsb' (16 * b.val) 16 (word w)) - Ideal.ofBits .bf16 17160#16 = nib b w := by
  rw [word_half, bf16_nib]; rfl

/-- The reference's low nibble. -/
theorem ref_low (w : BitVec 8) :
    (if (8#32).sle (w.setWidth 32 &&& 15#32) then (w.setWidth 32 &&& 15#32) - 16#32 else w.setWidth 32 &&& 15#32).toInt
      = (BitVec.extractLsb' (4 * (0 : Fin 2).val) 4 w).toInt := by
  have h : ∀ k : Fin 256, (if (8#32).sle ((BitVec.ofFin k : BitVec 8).setWidth 32 &&& 15#32) then ((BitVec.ofFin k : BitVec 8).setWidth 32 &&& 15#32) - 16#32 else (BitVec.ofFin k : BitVec 8).setWidth 32 &&& 15#32).toInt
      = (BitVec.extractLsb' (4 * (0 : Fin 2).val) 4 (BitVec.ofFin k : BitVec 8)).toInt := by decide +kernel
  exact h w.toFin

/-- The reference's high nibble. -/
theorem ref_high (w : BitVec 8) :
    (if (8#32).sle ((w.setWidth 32).sshiftRight 4) then ((w.setWidth 32).sshiftRight 4) - 16#32 else (w.setWidth 32).sshiftRight 4).toInt
      = (BitVec.extractLsb' (4 * (1 : Fin 2).val) 4 w).toInt := by
  have h : ∀ k : Fin 256, (if (8#32).sle (((BitVec.ofFin k : BitVec 8).setWidth 32).sshiftRight 4) then (((BitVec.ofFin k : BitVec 8).setWidth 32).sshiftRight 4) - 16#32 else ((BitVec.ofFin k : BitVec 8).setWidth 32).sshiftRight 4).toInt
      = (BitVec.extractLsb' (4 * (1 : Fin 2).val) 4 (BitVec.ofFin k : BitVec 8)).toInt := by decide +kernel
  exact h w.toFin

end Cert.Model

end
-- ==== Proof.Columns.lean ====
/- One block of columns in the second launch, at scalars. -/
module
public import proofs.«01_k».proof.Proof.Model
public import proofs.«01_k».proof.Proof.Scalars
public import proofs.«01_k».proof.Proof.Gen.KernelIdeal.Frame
public import Idealize.ShloMosaic.Lib.Pipeline.ValueKit
set_option maxRecDepth 16384
@[expose] public section
noncomputable section
open Idealize.ShloMosaic Idealize.ShloMosaic.TcCoe Idealize.SL.Sem
open Idealize.ShloMosaic.Pipeline (Dat)
namespace Cert.KernelIdeal.Columns
open Cert.KernelIdeal Cert.KernelIdeal.Gen Cert.Model

/-- The named constant the means multiply by is 1/1536. -/
theorem inv_n : Named.named (F := Ideal) (φ := .f32) κ "inv_n" 975874731#32 = ((1 / 1536 : ℝ) : EReal) :=
  IdealRules.named_const.ideal_named_scalar _ _ _ _ rfl

/-- A column of the first product is the full-precision output. -/
theorem pay60 (a : FVec Ideal S1536x3584 .bf16) (w : FVec Ideal S3584x256 .bf16) (r : Fin 1536) (o : Fin 256) :
    k1_pay60 (F := Ideal) a w (ix2 r o) = yf (fun r d => a (ix2 r d)) (fun d => w (ix2 d o)) r := by
  pointwise [k1_pay60, yf]

/-- A column of the second product, times the row scales, is the quantized output. -/
theorem pay61 (sa : FVec Ideal S1536x128 .f32) (a : FVec Ideal S1536x3584 .bf16) (w : FVec Ideal S3584x256 .bf16)
    (ρ : Fin 1536 → EReal) (h : ∀ r l, sa (ix2 r l) = ρ r) (r : Fin 1536) (o : Fin 256) :
    k1_pay61 (F := Ideal) sa a w (ix2 r o) = yq (fun r d => a (ix2 r d)) ρ (fun d => w (ix2 d o)) r := by
  pointwise [k1_pay61, h]
  split_ifs <;> rfl

section
variable (f y : FVec Ideal S1536x256 .f32)

/-- What is stored for a column in the divergence is `kl` of its two output columns. -/
theorem kl_at (o : Fin 256) :
    k1_pay69 (F := Ideal) (k1_pay62 f) (k1_pay63 f) k1_pay64 y (ix2 0 o)
      = kl (fun r => f (ix2 r o)) (fun r => y (ix2 r o)) := by
  pointwise [k1_pay69, k1_pay68, k1_pay67, k1_pay66, k1_pay65, k1_pay64, k1_pay63, k1_pay62, inv_n]
  rfl

/-- What is stored for an entry of the output gradient is `dy` of its two output columns. -/
theorem dy_at (r : Fin 1536) (o : Fin 256) :
   k1_pay1 (F := Ideal) (k1_pay66 y) (k1_pay70 (k1_pay62 f) y) (k1_pay71 (k1_pay62 f) (k1_pay63 f) k1_pay64 y) y (ix2 r o)
      = dy (fun r => f (ix2 r o)) (fun r => y (ix2 r o)) r := by
  pointwise [k1_pay1, k1_pay70, k1_pay71, k1_pay68, k1_pay67, k1_pay66, k1_pay65, k1_pay64, k1_pay63, k1_pay62, inv_n]
  rfl
end

/-- The accumulator starts at zero. -/
theorem zero_at (i) : k1_pay3 (F := Ideal) i = (0 : EReal) := by
  obtain ⟨r, d, rfl⟩ : ∃ (r : Fin 1536) (d : Fin 3584), i = ix2 r d := ⟨i 0, i 1, by blk_ext []⟩
  pointwise [k1_pay3]

/-- The accumulation: what was there, plus the block's 256 columns' contribution. -/
theorem acc_at (acc : FVec Ideal S1536x3584 .f32) (u : FVec Ideal S1536x256 .bf16) (w : FVec Ideal S3584x256 .bf16)
    (r : Fin 1536) (d : Fin 3584) :
    k1_pay2 (F := Ideal) acc u w (ix2 r d) = acc (ix2 r d) + ∑ o : Fin 256, u (ix2 r o) * w (ix2 d o) := by
  pointwise [k1_pay2]
end Cert.KernelIdeal.Columns
-- ==== Proof.Weight.lean ====
/- The dequantized weight block the second launch builds. -/
module
public import proofs.«01_k».proof.Proof.Scalars
public import proofs.«01_k».proof.Proof.Gen.KernelIdeal.Frame
public import Idealize.ShloMosaic.Lib.BitcastPair
public import Idealize.ShloMosaic.Lib.Pipeline.ValueKit
set_option maxRecDepth 16384
@[expose] public section
noncomputable section
open Idealize.ShloMosaic Idealize.ShloMosaic.TcCoe Idealize.SL.Sem
open Idealize.ShloMosaic.Pipeline (Dat)
namespace Cert.KernelIdeal.Weight
open Cert.KernelIdeal Cert.KernelIdeal.Gen Cert.Model

/-- The unpacked nibbles of 64 packed rows: row `r` of the result is nibble `r % 2` of packed row `r / 2`. -/
theorem pay5 (v : IVec S64x256 8) (r : Fin 128) (o : Fin 256) :
    k1_pay5 (F := Ideal) v (ix2 r o) = nib ⟨r.val % 2, by omega⟩ (v (ix2 ⟨r.val / 2, by omega⟩ o)) := by
  pointwise [k1_pay5]
  rw [bitcast_32_16, ← kernel_nib]
  have hi : ∀ h, bitcasts_S64x256_w32_S128x256_w16.srcIdx (ix2 r o) (S128x256.row (ix2 r o) / 2) h
      = ix2 (⟨r.val / 2, by omega⟩ : Fin 64) o := by
    intro h
    funext a
    match a with
    | ⟨0, _⟩ => exact Fin.ext rfl
    | ⟨1, _⟩ => exact Fin.ext rfl
  rw [hi]
  rfl

/-- One group of the dequantized weight. -/
theorem group (v : IVec S64x256 8) (s : FVec Ideal S1x256 .f32) (r : Fin 128) (o : Fin 256) :
    k1_pay7 (F := Ideal) (k1_pay5 v) (k1_pay6 s) (ix2 r o)
      = nib ⟨r.val % 2, by omega⟩ (v (ix2 ⟨r.val / 2, by omega⟩ o)) * s (ix2 0 o) := by
  pointwise [k1_pay7, k1_pay6, pay5]

/-- The 28 groups of 128 features as the body stores them, the last first. -/
def groups (P : Vec Ideal S1792x256 .i8) (S : FVec Ideal S28x256 .f32) : List (View.Piece (Elt Ideal) S3584x256 .bf16) :=
    [⟨Rect.unit (s := S3584x256) ![3456, 0] ![128, 256] inb_S3584x256_S128x256_3456_0,
      k1_pay7 (k1_pay5 (View.ld (Val := Elt Ideal) (e' := .i8) P (Rect.unit (s := S1792x256) ![1728, 0] ![64, 256] inb_S1792x256_S64x256_1728_0)))
        (k1_pay6 (View.ld (Val := Elt Ideal) (e' := .f32) S (Rect.unit (s := S28x256) ![27, 0] ![1, 256] inb_S28x256_S1x256_27_0)))⟩,
     ⟨Rect.unit (s := S3584x256) ![3328, 0] ![128, 256] inb_S3584x256_S128x256_3328_0,
      k1_pay7 (k1_pay5 (View.ld (Val := Elt Ideal) (e' := .i8) P (Rect.unit (s := S1792x256) ![1664, 0] ![64, 256] inb_S1792x256_S64x256_1664_0)))
        (k1_pay6 (View.ld (Val := Elt Ideal) (e' := .f32) S (Rect.unit (s := S28x256) ![26, 0] ![1, 256] inb_S28x256_S1x256_26_0)))⟩,
     ⟨Rect.unit (s := S3584x256) ![3200, 0] ![128, 256] inb_S3584x256_S128x256_3200_0,
      k1_pay7 (k1_pay5 (View.ld (Val := Elt Ideal) (e' := .i8) P (Rect.unit (s := S1792x256) ![1600, 0] ![64, 256] inb_S1792x256_S64x256_1600_0)))
        (k1_pay6 (View.ld (Val := Elt Ideal) (e' := .f32) S (Rect.unit (s := S28x256) ![25, 0] ![1, 256] inb_S28x256_S1x256_25_0)))⟩,
     ⟨Rect.unit (s := S3584x256) ![3072, 0] ![128, 256] inb_S3584x256_S128x256_3072_0,
      k1_pay7 (k1_pay5 (View.ld (Val := Elt Ideal) (e' := .i8) P (Rect.unit (s := S1792x256) ![1536, 0] ![64, 256] inb_S1792x256_S64x256_1536_0)))
        (k1_pay6 (View.ld (Val := Elt Ideal) (e' := .f32) S (Rect.unit (s := S28x256) ![24, 0] ![1, 256] inb_S28x256_S1x256_24_0)))⟩,
     ⟨Rect.unit (s := S3584x256) ![2944, 0] ![128, 256] inb_S3584x256_S128x256_2944_0,
      k1_pay7 (k1_pay5 (View.ld (Val := Elt Ideal) (e' := .i8) P (Rect.unit (s := S1792x256) ![1472, 0] ![64, 256] inb_S1792x256_S64x256_1472_0)))
        (k1_pay6 (View.ld (Val := Elt Ideal) (e' := .f32) S (Rect.unit (s := S28x256) ![23, 0] ![1, 256] inb_S28x256_S1x256_23_0)))⟩,
     ⟨Rect.unit (s := S3584x256) ![2816, 0] ![128, 256] inb_S3584x256_S128x256_2816_0,
      k1_pay7 (k1_pay5 (View.ld (Val := Elt Ideal) (e' := .i8) P (Rect.unit (s := S1792x256) ![1408, 0] ![64, 256] inb_S1792x256_S64x256_1408_0)))
        (k1_pay6 (View.ld (Val := Elt Ideal) (e' := .f32) S (Rect.unit (s := S28x256) ![22, 0] ![1, 256] inb_S28x256_S1x256_22_0)))⟩,
     ⟨Rect.unit (s := S3584x256) ![2688, 0] ![128, 256] inb_S3584x256_S128x256_2688_0,
      k1_pay7 (k1_pay5 (View.ld (Val := Elt Ideal) (e' := .i8) P (Rect.unit (s := S1792x256) ![1344, 0] ![64, 256] inb_S1792x256_S64x256_1344_0)))
        (k1_pay6 (View.ld (Val := Elt Ideal) (e' := .f32) S (Rect.unit (s := S28x256) ![21, 0] ![1, 256] inb_S28x256_S1x256_21_0)))⟩,
     ⟨Rect.unit (s := S3584x256) ![2560, 0] ![128, 256] inb_S3584x256_S128x256_2560_0,
      k1_pay7 (k1_pay5 (View.ld (Val := Elt Ideal) (e' := .i8) P (Rect.unit (s := S1792x256) ![1280, 0] ![64, 256] inb_S1792x256_S64x256_1280_0)))
        (k1_pay6 (View.ld (Val := Elt Ideal) (e' := .f32) S (Rect.unit (s := S28x256) ![20, 0] ![1, 256] inb_S28x256_S1x256_20_0)))⟩,
     ⟨Rect.unit (s := S3584x256) ![2432, 0] ![128, 256] inb_S3584x256_S128x256_2432_0,
      k1_pay7 (k1_pay5 (View.ld (Val := Elt Ideal) (e' := .i8) P (Rect.unit (s := S1792x256) ![1216, 0] ![64, 256] inb_S1792x256_S64x256_1216_0)))
        (k1_pay6 (View.ld (Val := Elt Ideal) (e' := .f32) S (Rect.unit (s := S28x256) ![19, 0] ![1, 256] inb_S28x256_S1x256_19_0)))⟩,
     ⟨Rect.unit (s := S3584x256) ![2304, 0] ![128, 256] inb_S3584x256_S128x256_2304_0,
      k1_pay7 (k1_pay5 (View.ld (Val := Elt Ideal) (e' := .i8) P (Rect.unit (s := S1792x256) ![1152, 0] ![64, 256] inb_S1792x256_S64x256_1152_0)))
        (k1_pay6 (View.ld (Val := Elt Ideal) (e' := .f32) S (Rect.unit (s := S28x256) ![18, 0] ![1, 256] inb_S28x256_S1x256_18_0)))⟩,
     ⟨Rect.unit (s := S3584x256) ![2176, 0] ![128, 256] inb_S3584x256_S128x256_2176_0,
      k1_pay7 (k1_pay5 (View.ld (Val := Elt Ideal) (e' := .i8) P (Rect.unit (s := S1792x256) ![1088, 0] ![64, 256] inb_S1792x256_S64x256_1088_0)))
        (k1_pay6 (View.ld (Val := Elt Ideal) (e' := .f32) S (Rect.unit (s := S28x256) ![17, 0] ![1, 256] inb_S28x256_S1x256_17_0)))⟩,
     ⟨Rect.unit (s := S3584x256) ![2048, 0] ![128, 256] inb_S3584x256_S128x256_2048_0,
      k1_pay7 (k1_pay5 (View.ld (Val := Elt Ideal) (e' := .i8) P (Rect.unit (s := S1792x256) ![1024, 0] ![64, 256] inb_S1792x256_S64x256_1024_0)))
        (k1_pay6 (View.ld (Val := Elt Ideal) (e' := .f32) S (Rect.unit (s := S28x256) ![16, 0] ![1, 256] inb_S28x256_S1x256_16_0)))⟩,
     ⟨Rect.unit (s := S3584x256) ![1920, 0] ![128, 256] inb_S3584x256_S128x256_1920_0,
      k1_pay7 (k1_pay5 (View.ld (Val := Elt Ideal) (e' := .i8) P (Rect.unit (s := S1792x256) ![960, 0] ![64, 256] inb_S1792x256_S64x256_960_0)))
        (k1_pay6 (View.ld (Val := Elt Ideal) (e' := .f32) S (Rect.unit (s := S28x256) ![15, 0] ![1, 256] inb_S28x256_S1x256_15_0)))⟩,
     ⟨Rect.unit (s := S3584x256) ![1792, 0] ![128, 256] inb_S3584x256_S128x256_1792_0,
      k1_pay7 (k1_pay5 (View.ld (Val := Elt Ideal) (e' := .i8) P (Rect.unit (s := S1792x256) ![896, 0] ![64, 256] inb_S1792x256_S64x256_896_0)))
        (k1_pay6 (View.ld (Val := Elt Ideal) (e' := .f32) S (Rect.unit (s := S28x256) ![14, 0] ![1, 256] inb_S28x256_S1x256_14_0)))⟩,
     ⟨Rect.unit (s := S3584x256) ![1664, 0] ![128, 256] inb_S3584x256_S128x256_1664_0,
      k1_pay7 (k1_pay5 (View.ld (Val := Elt Ideal) (e' := .i8) P (Rect.unit (s := S1792x256) ![832, 0] ![64, 256] inb_S1792x256_S64x256_832_0)))
        (k1_pay6 (View.ld (Val := Elt Ideal) (e' := .f32) S (Rect.unit (s := S28x256) ![13, 0] ![1, 256] inb_S28x256_S1x256_13_0)))⟩,
     ⟨Rect.unit (s := S3584x256) ![1536, 0] ![128, 256] inb_S3584x256_S128x256_1536_0,
      k1_pay7 (k1_pay5 (View.ld (Val := Elt Ideal) (e' := .i8) P (Rect.unit (s := S1792x256) ![768, 0] ![64, 256] inb_S1792x256_S64x256_768_0)))
        (k1_pay6 (View.ld (Val := Elt Ideal) (e' := .f32) S (Rect.unit (s := S28x256) ![12, 0] ![1, 256] inb_S28x256_S1x256_12_0)))⟩,
     ⟨Rect.unit (s := S3584x256) ![1408, 0] ![128, 256] inb_S3584x256_S128x256_1408_0,
      k1_pay7 (k1_pay5 (View.ld (Val := Elt Ideal) (e' := .i8) P (Rect.unit (s := S1792x256) ![704, 0] ![64, 256] inb_S1792x256_S64x256_704_0)))
        (k1_pay6 (View.ld (Val := Elt Ideal) (e' := .f32) S (Rect.unit (s := S28x256) ![11, 0] ![1, 256] inb_S28x256_S1x256_11_0)))⟩,
     ⟨Rect.unit (s := S3584x256) ![1280, 0] ![128, 256] inb_S3584x256_S128x256_1280_0,
      k1_pay7 (k1_pay5 (View.ld (Val := Elt Ideal) (e' := .i8) P (Rect.unit (s := S1792x256) ![640, 0] ![64, 256] inb_S1792x256_S64x256_640_0)))
        (k1_pay6 (View.ld (Val := Elt Ideal) (e' := .f32) S (Rect.unit (s := S28x256) ![10, 0] ![1, 256] inb_S28x256_S1x256_10_0)))⟩,
     ⟨Rect.unit (s := S3584x256) ![1152, 0] ![128, 256] inb_S3584x256_S128x256_1152_0,
      k1_pay7 (k1_pay5 (View.ld (Val := Elt Ideal) (e' := .i8) P (Rect.unit (s := S1792x256) ![576, 0] ![64, 256] inb_S1792x256_S64x256_576_0)))
        (k1_pay6 (View.ld (Val := Elt Ideal) (e' := .f32) S (Rect.unit (s := S28x256) ![9, 0] ![1, 256] inb_S28x256_S1x256_9_0)))⟩,
     ⟨Rect.unit (s := S3584x256) ![1024, 0] ![128, 256] inb_S3584x256_S128x256_1024_0,
      k1_pay7 (k1_pay5 (View.ld (Val := Elt Ideal) (e' := .i8) P (Rect.unit (s := S1792x256) ![512, 0] ![64, 256] inb_S1792x256_S64x256_512_0)))
        (k1_pay6 (View.ld (Val := Elt Ideal) (e' := .f32) S (Rect.unit (s := S28x256) ![8, 0] ![1, 256] inb_S28x256_S1x256_8_0)))⟩,
     ⟨Rect.unit (s := S3584x256) ![896, 0] ![128, 256] inb_S3584x256_S128x256_896_0,
      k1_pay7 (k1_pay5 (View.ld (Val := Elt Ideal) (e' := .i8) P (Rect.unit (s := S1792x256) ![448, 0] ![64, 256] inb_S1792x256_S64x256_448_0)))
        (k1_pay6 (View.ld (Val := Elt Ideal) (e' := .f32) S (Rect.unit (s := S28x256) ![7, 0] ![1, 256] inb_S28x256_S1x256_7_0)))⟩,
     ⟨Rect.unit (s := S3584x256) ![768, 0] ![128, 256] inb_S3584x256_S128x256_768_0,
      k1_pay7 (k1_pay5 (View.ld (Val := Elt Ideal) (e' := .i8) P (Rect.unit (s := S1792x256) ![384, 0] ![64, 256] inb_S1792x256_S64x256_384_0)))
        (k1_pay6 (View.ld (Val := Elt Ideal) (e' := .f32) S (Rect.unit (s := S28x256) ![6, 0] ![1, 256] inb_S28x256_S1x256_6_0)))⟩,
     ⟨Rect.unit (s := S3584x256) ![640, 0] ![128, 256] inb_S3584x256_S128x256_640_0,
      k1_pay7 (k1_pay5 (View.ld (Val := Elt Ideal) (e' := .i8) P (Rect.unit (s := S1792x256) ![320, 0] ![64, 256] inb_S1792x256_S64x256_320_0)))
        (k1_pay6 (View.ld (Val := Elt Ideal) (e' := .f32) S (Rect.unit (s := S28x256) ![5, 0] ![1, 256] inb_S28x256_S1x256_5_0)))⟩,
     ⟨Rect.unit (s := S3584x256) ![512, 0] ![128, 256] inb_S3584x256_S128x256_512_0,
      k1_pay7 (k1_pay5 (View.ld (Val := Elt Ideal) (e' := .i8) P (Rect.unit (s := S1792x256) ![256, 0] ![64, 256] inb_S1792x256_S64x256_256_0)))
        (k1_pay6 (View.ld (Val := Elt Ideal) (e' := .f32) S (Rect.unit (s := S28x256) ![4, 0] ![1, 256] inb_S28x256_S1x256_4_0)))⟩,
     ⟨Rect.unit (s := S3584x256) ![384, 0] ![128, 256] inb_S3584x256_S128x256_384_0,
      k1_pay7 (k1_pay5 (View.ld (Val := Elt Ideal) (e' := .i8) P (Rect.unit (s := S1792x256) ![192, 0] ![64, 256] inb_S1792x256_S64x256_192_0)))
        (k1_pay6 (View.ld (Val := Elt Ideal) (e' := .f32) S (Rect.unit (s := S28x256) ![3, 0] ![1, 256] inb_S28x256_S1x256_3_0)))⟩,
     ⟨Rect.unit (s := S3584x256) ![256, 0] ![128, 256] inb_S3584x256_S128x256_256_0,
      k1_pay7 (k1_pay5 (View.ld (Val := Elt Ideal) (e' := .i8) P (Rect.unit (s := S1792x256) ![128, 0] ![64, 256] inb_S1792x256_S64x256_128_0)))
        (k1_pay6 (View.ld (Val := Elt Ideal) (e' := .f32) S (Rect.unit (s := S28x256) ![2, 0] ![1, 256] inb_S28x256_S1x256_2_0)))⟩,
     ⟨Rect.unit (s := S3584x256) ![128, 0] ![128, 256] inb_S3584x256_S128x256_128_0,
      k1_pay7 (k1_pay5 (View.ld (Val := Elt Ideal) (e' := .i8) P (Rect.unit (s := S1792x256) ![64, 0] ![64, 256] inb_S1792x256_S64x256_64_0)))
        (k1_pay6 (View.ld (Val := Elt Ideal) (e' := .f32) S (Rect.unit (s := S28x256) ![1, 0] ![1, 256] inb_S28x256_S1x256_1_0)))⟩,
     ⟨Rect.unit (s := S3584x256) ![0, 0] ![128, 256] inb_S3584x256_S128x256_0_0,
      k1_pay7 (k1_pay5 (View.ld (Val := Elt Ideal) (e' := .i8) P (Rect.unit (s := S1792x256) ![0, 0] ![64, 256] inb_S1792x256_S64x256_0_0)))
        (k1_pay6 (View.ld (Val := Elt Ideal) (e' := .f32) S (Rect.unit (s := S28x256) ![0, 0] ![1, 256] inb_S28x256_S1x256_0_0)))⟩]

/-- The dequantized weight block as the body reads it back. -/
def wqv (P : Vec Ideal S1792x256 .i8) (S : FVec Ideal S28x256 .f32) : FVec Ideal S3584x256 .bf16 :=
  (View.whole cc1_scratch0).readCov (groups P S)
    (Rect.unit (s := S3584x256) ![0, 0] ![3584, 256] inb_S3584x256_S3584x256_0_0).toLoadRect

/-- One stored group is the group's rows of the dequantized weight. -/
theorem group_at (P : Vec Ideal S1792x256 .i8) (S : FVec Ideal S28x256 .f32) (d : Fin 3584) (o : Fin 256) (p k : Nat)
    (hP : ∀ a, (![p, 0] : Fin 2 → Nat) a + (![64, 256] : Fin 2 → Nat) a ≤ S1792x256.size a)
    (hS : ∀ a, (![k, 0] : Fin 2 → Nat) a + (![1, 256] : Fin 2 → Nat) a ≤ S28x256.size a)
    (x : S128x256.Idx) (hk : p = 64 * k) (h0 : d.val = 128 * k + (x 0).val) (h1 : o.val = (x 1).val) :
    k1_pay7 (F := Ideal) (k1_pay5 (View.ld (Val := Elt Ideal) (e' := .i8) P (Rect.unit (s := S1792x256) ![p, 0] ![64, 256] hP)))
        (k1_pay6 (View.ld (Val := Elt Ideal) (e' := .f32) S (Rect.unit (s := S28x256) ![k, 0] ![1, 256] hS))) x
      = wq (fun k => P (ix2 k o)) (fun k => S (ix2 k o)) d := by
  obtain ⟨r, o', rfl⟩ : ∃ (r : Fin 128) (o' : Fin 256), x = ix2 r o' := ⟨x 0, x 1, by blk_ext []⟩
  obtain rfl : o = o' := Fin.ext h1
  have h0' : d.val = 128 * k + r.val := h0
  rw [group]
  unfold wq
  refine congrArg₂ (· * ·) (congrArg₂ nib (Fin.ext ?_) (congrArg P ?_)) (congrArg S ?_)
  · show r.val % 2 = d.val % 2; omega
  · funext a
    match a with
    | ⟨0, _⟩ => exact Fin.ext (by show p + 1 * (r.val / 2) = d.val / 2; omega)
    | ⟨1, _⟩ => exact Fin.ext (by show 0 + 1 * o.val = o.val; omega)
  · funext a
    match a with
    | ⟨0, _⟩ => exact Fin.ext (by show k + 1 * 0 = d.val / 128; omega)
    | ⟨1, _⟩ => exact Fin.ext (by show 0 + 1 * o.val = o.val; omega)

/-- The block read back: entry (`d`, `o`) is entry `d` of column `o` of the dequantized weight. -/
theorem wqv_at (P : Vec Ideal S1792x256 .i8) (S : FVec Ideal S28x256 .f32) (d : Fin 3584) (o : Fin 256) :
    wqv P S (ix2 d o) = wq (fun k => P (ix2 k o)) (fun k => S (ix2 k o)) d := by
  unfold wqv
  rw [View.readCov_eq_canon']
  show View.canon _ _ = _
  have he : (Rect.unit (s := S3584x256) ![0, 0] ![3584, 256] inb_S3584x256_S3584x256_0_0).toLoadRect.idx (ix2 d o)
      = ix2 d o := by
    funext a
    match a with
    | ⟨0, _⟩ => exact Fin.ext (by show 0 + 1 * d.val = d.val; omega)
    | ⟨1, _⟩ => exact Fin.ext (by show 0 + 1 * o.val = o.val; omega)
  rw [he]
  unfold groups
  canon_tiles x h
  all_goals exact group_at P S d o _ _ _ _ x rfl (by first | exact h0 | exact h0.trans (Nat.zero_add _).symm) h1
end Cert.KernelIdeal.Weight
-- ==== Proof.Main.lean ====
/- The second launch: outputs, divergence and the gradient in the activations. -/
module
public import proofs.«01_k».proof.Proof.Columns
public import proofs.«01_k».proof.Proof.Weight
public import proofs.«01_k».proof.Proof.Gen.KernelIdeal.Frame
public import Idealize.ShloMosaic.Lib.Pipeline.ValueKit
set_option maxRecDepth 16384
@[expose] public section
noncomputable section
open Idealize.ShloMosaic Idealize.ShloMosaic.TcCoe Idealize.SL.Sem
open Idealize.ShloMosaic.Pipeline (Dat)
namespace Cert.KernelIdeal.Main
open Cert.KernelIdeal Cert.KernelIdeal.Gen Cert.Model Cert.KernelIdeal.Columns Cert.KernelIdeal.Weight

/-! ### One point of the launch, over its blocks -/

/-- The block of columns of the full-precision output. -/
abbrev bf (h : FVec Ideal S1536x3584 .bf16) (w : FVec Ideal S3584x256 .bf16) : FVec Ideal S1536x256 .f32 :=
  k1_pay60 h w
/-- The block of columns of the quantized output. -/
abbrev bq (sa : FVec Ideal S1536x128 .f32) (a : FVec Ideal S1536x3584 .bf16) (P : Vec Ideal S1792x256 .i8)
    (S : FVec Ideal S28x256 .f32) : FVec Ideal S1536x256 .f32 := k1_pay61 sa a (wqv P S)
/-- The block of columns of the gradient in the output. -/
abbrev bdy (f y : FVec Ideal S1536x256 .f32) : FVec Ideal S1536x256 .bf16 :=
  k1_pay1 (k1_pay66 y) (k1_pay70 (k1_pay62 f) y) (k1_pay71 (k1_pay62 f) (k1_pay63 f) k1_pay64 y) y
/-- The block of divergences. -/
abbrev bkl (f y : FVec Ideal S1536x256 .f32) : FVec Ideal S1x256 .f32 :=
  k1_pay69 (k1_pay62 f) (k1_pay63 f) k1_pay64 y

variable (V : (c : Dev nD) → (b : Ref sig .tc) → Buf (Elt Ideal) ((c : Thread nD τ).loc b)) (c : Dev nD)

/-- The full-precision block at a point. -/
abbrev pf (t : Fin cfg1.N) := bf (iblk1 V c 0 t) (iblk1 V c 3 t)
/-- The quantized block at a point. -/
abbrev pq (t : Fin cfg1.N) := bq (iblk1 V c 2 t) (iblk1 V c 1 t) (iblk1 V c 4 t) (iblk1 V c 5 t)

/-- At the first grid point the gradient block is one product added to zero. -/
theorem first6 (t : Fin cfg1.N) (h0 : t.val % 74 = 0) :
    (outsAt1 V c t.val t.isLt).1
      = k1_pay2 (F := Ideal) (k1_pay3 (F := Ideal)) (bdy (pf V c t) (pq V c t)) (wqv (iblk1 V c 4 t) (iblk1 V c 5 t)) := by
  rw [outsAt1_A V c t h0]
  frame_out
  rfl
/-- At the first grid point the divergence block is that of the two outputs. -/
theorem first7 (t : Fin cfg1.N) (h0 : t.val % 74 = 0) :
    (outsAt1 V c t.val t.isLt).2 = bkl (pf V c t) (pq V c t) := by
  rw [outsAt1_A V c t h0]
  frame_out
  rfl
/-- At a later grid point the gradient block is one product added to what was there. -/
theorem step6 (t : Fin cfg1.N) (h0 : ¬t.val % 74 = 0) :
    (outsAt1 V c t.val t.isLt).1
      = k1_pay2 (F := Ideal) (outsAt1 V c (t.val - 1) (Nat.lt_of_le_of_lt (Nat.sub_le _ _) t.isLt)).1 (bdy (pf V c t) (pq V c t)) (wqv (iblk1 V c 4 t) (iblk1 V c 5 t)) := by
  rw [outsAt1_B V c t h0]
  frame_out
  rfl
/-- At a later grid point the divergence block is that of the two outputs. -/
theorem step7 (t : Fin cfg1.N) (h0 : ¬t.val % 74 = 0) :
    (outsAt1 V c t.val t.isLt).2 = bkl (pf V c t) (pq V c t) := by
  rw [outsAt1_B V c t h0]
  frame_out
  rfl
/-- At every grid point the divergence block is that of the two outputs. -/
theorem at7 (t : Fin cfg1.N) : (outsAt1 V c t.val t.isLt).2 = bkl (pf V c t) (pq V c t) := by
  by_cases h : t.val % 74 = 0
  · exact first7 V c t h
  · exact step7 V c t h

/-! ### The two arrays the launch leaves -/

section
variable (H A : FVec Ideal S1536x3584 .bf16) (ρ : Fin 1536 → EReal) (WR : FVec Ideal S3584x18944 .bf16)
  (WP : Vec Ideal S1792x18944 .i8) (WS : FVec Ideal S28x18944 .f32)

/-- Column `o` of the full-precision output. -/
def cf (o : Fin 18944) : Fin 1536 → EReal := yf (fun r d => H (ix2 r d)) (fun d => WR (ix2 d o))
/-- Column `o` of the dequantized weight. -/
def cw (o : Fin 18944) : Fin 3584 → EReal := wq (fun k => WP (ix2 k o)) (fun k => WS (ix2 k o))
/-- Column `o` of the quantized output. -/
def cq (o : Fin 18944) : Fin 1536 → EReal := yq (fun r d => A (ix2 r d)) ρ (cw WP WS o)
/-- The divergences. -/
def KLA : FVec Ideal S1x18944 .f32 := fun i => kl (cf H WR (i 1)) (cq A ρ WP WS (i 1))
/-- The gradient in the activations. -/
def DHA : FVec Ideal S1536x3584 .f32 :=
  fun i => ∑ o : Fin 18944, dy (cf H WR o) (cq A ρ WP WS o) (i 0) * cw WP WS o (i 1)
end

/-- Which block each window of the second launch is at, at every grid point. -/
theorem idx : ∀ t : Fin cfg1.N, win1_0.index t = ![0, 0] ∧ win1_1.index t = ![0, 0] ∧ win1_2.index t = ![0, 0] ∧
    win1_3.index t = ![0, t.val] ∧ win1_4.index t = ![0, t.val] ∧ win1_5.index t = ![0, t.val] ∧
    win1_6.index t = ![0, 0] ∧ win1_7.index t = ![0, t.val] :=
  (by decide +kernel : ∀ t : Fin grid1.N, _)

/-- The staged reference rows are all of them. -/
theorem blk_h (t : Fin cfg1.N) (r : Fin 1536) (d : Fin 3584) : iblk1 V c 0 t (ix2 r d) = V c main_v3_0 (ix2 r d) := by
  blk_ext [iblk1, idx t]
/-- The staged quantized rows are all of them. -/
theorem blk_a (t : Fin cfg1.N) (r : Fin 1536) (d : Fin 3584) : iblk1 V c 1 t (ix2 r d) = V c main_v3_1 (ix2 r d) := by
  blk_ext [iblk1, idx t]
/-- The staged scales are all of them. -/
theorem blk_s (t : Fin cfg1.N) (r : Fin 1536) (l : Fin 128) : iblk1 V c 2 t (ix2 r l) = V c main_v3_3 (ix2 r l) := by
  blk_ext [iblk1, idx t]
/-- An entry of the staged block of the reference weight is an entry of the weight. -/
theorem blk_wr (t : Fin cfg1.N) (d : Fin 3584) (o : Fin 256) (O : Fin 18944) (hO : O.val = t.val * 256 + o.val) :
    iblk1 V c 3 t (ix2 d o) = V c main_arg3 (ix2 d O) := by
  blk_ext [iblk1, idx t]
/-- An entry of the staged block of the packed weight is an entry of the packed weight. -/
theorem blk_wp (t : Fin cfg1.N) (k : Fin 1792) (o : Fin 256) (O : Fin 18944) (hO : O.val = t.val * 256 + o.val) :
    iblk1 V c 4 t (ix2 k o) = V c main_arg4 (ix2 k O) := by
  blk_ext [iblk1, idx t]
/-- An entry of the staged block of the weight scales is an entry of the scales. -/
theorem blk_ws (t : Fin cfg1.N) (k : Fin 28) (o : Fin 256) (O : Fin 18944) (hO : O.val = t.val * 256 + o.val) :
    iblk1 V c 5 t (ix2 k o) = V c main_arg5 (ix2 k O) := by
  blk_ext [iblk1, idx t]

/-- Column `o` of the weight block at point `t` is column `256 t + o` of the dequantized weight. -/
theorem weight_at (t : Fin cfg1.N) (o : Fin 256) (O : Fin 18944) (hO : O.val = t.val * 256 + o.val) (d : Fin 3584) :
    wqv (iblk1 V c 4 t) (iblk1 V c 5 t) (ix2 d o) = cw (V c main_arg4) (V c main_arg5) O d :=
  (wqv_at _ _ d o).trans (congrArg₂ (fun p s => wq p s d) (funext fun k => blk_wp V c t k o O hO)
    (funext fun k => blk_ws V c t k o O hO))

/-- A column of the full-precision output at a grid point is the column of the whole output. -/
theorem pf_at (t : Fin cfg1.N) (o : Fin 256) (O : Fin 18944) (hO : O.val = t.val * 256 + o.val) :
    (fun r => pf V c t (ix2 r o)) = cf (V c main_v3_0) (V c main_arg3) O :=
  funext fun r => (pay60 _ _ r o).trans (congrArg₂ (fun h w => yf h w r)
    (funext fun r => funext fun d => blk_h V c t r d) (funext fun d => blk_wr V c t d o O hO))

variable (ρ : Fin 1536 → EReal) (hρ : ∀ r l, V c main_v3_3 (ix2 r l) = ρ r)
include hρ

/-- A column of the quantized output at a grid point is the column of the whole output. -/
theorem pq_at (t : Fin cfg1.N) (o : Fin 256) (O : Fin 18944) (hO : O.val = t.val * 256 + o.val) :
    (fun r => pq V c t (ix2 r o)) = cq (V c main_v3_1) ρ (V c main_arg4) (V c main_arg5) O :=
  funext fun r => (pay61 _ _ _ ρ (fun r l => (blk_s V c t r l).trans (hρ r l)) r o).trans
    (congrArg₂ (fun a w => yq a ρ w r) (funext fun r => funext fun d => blk_a V c t r d)
      (funext fun d => weight_at V c t o O hO d))

/-- The launch leaves the divergences. -/
theorem arr7 : (dat1 V c).arrAt 7 cfg1.N
    = KLA (V c main_v3_0) (V c main_v3_1) ρ (V c main_arg3) (V c main_arg4) (V c main_arg5) := by
  refine (dat1 V c).arrAt_eq_of_covers 7 _ (by decide +kernel) fun t _ y => ?_
  blk_simp
  rw [after1_7, at7]
  have ht : t.val < 74 := t.isLt
  obtain ⟨r, o, rfl⟩ : ∃ (r : Fin 1) (o : Fin 256), y = ix2 r o := ⟨y 0, y 1, by blk_ext []⟩
  obtain rfl : r = 0 := Subsingleton.elim _ _
  have he : (((View.whole main_v4_1).slice (win1_7.rect t)).emb (ix2 0 o)) =
      ix2 (0 : Fin 1) (⟨t.val * 256 + o.val, by omega⟩ : Fin 18944) := by blk_ext [idx t]
  refine Eq.trans ?_ (congrArg (KLA _ _ _ _ _ _) he).symm
  refine (kl_at _ _ o).trans ?_
  rw [pf_at V c t o ⟨t.val * 256 + o.val, by omega⟩ rfl, pq_at V c ρ hρ t o ⟨t.val * 256 + o.val, by omega⟩ rfl]
  rfl

/-- What one point adds to the gradient in the activations. -/
def term (t : Fin cfg1.N) (i : S1536x3584.Idx) : EReal :=
  ∑ o : Fin 256, bdy (pf V c t) (pq V c t) (ix2 (i 0) o) * wqv (iblk1 V c 4 t) (iblk1 V c 5 t) (ix2 (i 1) o)

omit hρ in
/-- What a grid point adds to an entry of the gradient: the part of the sum over its 256 columns. -/
theorem acc_term (acc : FVec Ideal S1536x3584 .f32) (t : Fin cfg1.N) (i : S1536x3584.Idx) :
    k1_pay2 (F := Ideal) acc (bdy (pf V c t) (pq V c t)) (wqv (iblk1 V c 4 t) (iblk1 V c 5 t)) i
      = (acc i + term V c t i : EReal) := by
  obtain ⟨r, d, rfl⟩ : ∃ (r : Fin 1536) (d : Fin 3584), i = ix2 r d := ⟨i 0, i 1, by blk_ext []⟩
  exact acc_at _ _ _ r d

omit hρ in
/-- At the last point the accumulator is the sum of the points' contributions. -/
theorem acc_last (t : Fin cfg1.N) (ht : t.val % 74 = 73) (i : S1536x3584.Idx) :
    (outsAt1 V c t.val t.isLt).1 i = (∑ s : Fin 74, term V c s i : EReal) := by
  have h := Pipeline.eq_sum_fin_of_reset_step_apply_of_flush (M := EReal) (fun n h => (outsAt1 V c n h).1) 74 (fun _ => 0)
    (fun t i => term V c t i)
    (fun t h i => by rw [first6 V c t h, acc_term, zero_at])
    (fun t h i => by rw [step6 V c t h, acc_term]) t ht i
  rw [zero_add] at h
  refine h.trans (Finset.sum_congr rfl fun s _ => congrArg (fun s => term V c s i) (Fin.ext ?_))
  have ht' : t.val < 74 := t.isLt
  show 74 * (t.val / 74) + s.val = s.val
  omega

/-- The launch leaves the gradient in the activations, the sum over all columns. -/
theorem arr6 : (dat1 V c).arrAt 6 cfg1.N
    = DHA (V c main_v3_0) (V c main_v3_1) ρ (V c main_arg3) (V c main_arg4) (V c main_arg5) := by
  refine (dat1 V c).arrAt_eq_of_covers 6 _ (by decide +kernel) fun t hf y => ?_
  blk_simp
  rw [after1_6]
  obtain ⟨r, d, rfl⟩ : ∃ (r : Fin 1536) (d : Fin 3584), y = ix2 r d := ⟨y 0, y 1, by blk_ext []⟩
  have he : (((View.whole main_v4_0).slice (win1_6.rect t)).emb (ix2 r d)) = ix2 r d := by blk_ext [idx t]
  refine Eq.trans ?_ (congrArg (DHA _ _ _ _ _ _) he).symm
  refine (acc_last V c t ((flush1_6 t).mp hf) (ix2 r d)).trans ?_
  refine Fin.sum_mul_add_congr (M := EReal) (f := fun o => dy (cf (V c main_v3_0) (V c main_arg3) o)
    (cq (V c main_v3_1) ρ (V c main_arg4) (V c main_arg5) o) r * cw (V c main_arg4) (V c main_arg5) o d)
    (fun s o hl => ?_) (by decide)
  refine congrArg₂ (· * ·) ((dy_at _ _ r o).trans ?_) (weight_at V c s o ⟨s.val * 256 + o.val, hl⟩ rfl d)
  rw [pf_at V c s o ⟨s.val * 256 + o.val, hl⟩ rfl, pq_at V c ρ hρ s o ⟨s.val * 256 + o.val, hl⟩ rfl]
end Cert.KernelIdeal.Main
-- ==== Proof.Dgamma.lean ====
/- The third launch: the gradient in the gain. -/
module
public import proofs.«01_k».proof.Proof.Model
public import proofs.«01_k».proof.Proof.Gen.KernelIdeal.Frame
public import Idealize.ShloMosaic.Lib.Pipeline.ValueKit
set_option maxRecDepth 16384
@[expose] public section
noncomputable section
open Idealize.ShloMosaic Idealize.ShloMosaic.TcCoe Idealize.SL.Sem
open Idealize.ShloMosaic.Pipeline (Dat)
namespace Cert.KernelIdeal.Dgamma
open Cert.KernelIdeal Cert.KernelIdeal.Gen Cert.Model

/-- One block of the launch: the sum over the tokens of `dh * (x * rs)`, given that the lanes of a row of `rs` agree. -/
theorem pay1 (rs : FVec Ideal S1536x128 .f32) (x : FVec Ideal S1536x512 .bf16) (dh : FVec Ideal S1536x512 .f32)
    (ρ : Fin 1536 → EReal) (h : ∀ r l, rs (ix2 r l) = ρ r) (d : Fin 512) :
    k2_pay1 (F := Ideal) rs x dh (ix2 0 d) = ∑ r : Fin 1536, dh (ix2 r d) * (x (ix2 r d) * ρ r) := by
  pointwise [k2_pay1, h]
  refine Finset.sum_congr rfl fun r _ => ?_
  split_ifs <;> rfl

/-- Which block each window of the third launch is at, at every grid point. -/
theorem idx : ∀ t : Fin cfg2.N, win2_0.index t = ![0, t.val] ∧ win2_1.index t = ![0, t.val] ∧
    win2_2.index t = ![0, 0] ∧ win2_3.index t = ![0, t.val] :=
  (by decide +kernel : ∀ t : Fin grid2.N, _)

variable (V : (c : Dev nD) → (b : Ref sig .tc) → Buf (Elt Ideal) ((c : Thread nD τ).loc b)) (c : Dev nD)

/-- An entry of the staged gradient block is an entry of the whole gradient. -/
theorem blk_dh (t : Fin cfg2.N) (r : Fin 1536) (d : Fin 512) (D : Fin 3584) (hD : D.val = t.val * 512 + d.val) :
    iblk2 V c 0 t (ix2 r d) = V c main_v4_0 (ix2 r D) := by
  blk_ext [iblk2, idx t]
/-- An entry of the staged activation block is an entry of the whole activations. -/
theorem blk_x (t : Fin cfg2.N) (r : Fin 1536) (d : Fin 512) (D : Fin 3584) (hD : D.val = t.val * 512 + d.val) :
    iblk2 V c 1 t (ix2 r d) = V c main_v0 (ix2 r D) := by
  blk_ext [iblk2, idx t]
/-- The staged reciprocal norms are all of them. -/
theorem blk_rs (t : Fin cfg2.N) (r : Fin 1536) (l : Fin 128) :
    iblk2 V c 2 t (ix2 r l) = V c main_v3_4 (ix2 r l) := by
  blk_ext [iblk2, idx t]

/-- The array the launch leaves. -/
def DG (dh : FVec Ideal S1536x3584 .f32) (x : FVec Ideal S1536x3584 .bf16) (ρ : Fin 1536 → EReal) :
    FVec Ideal S1x3584 .f32 :=
  fun i => ∑ r : Fin 1536, dh (ix2 r (i 1)) * (x (ix2 r (i 1)) * ρ r)

/-- The launch leaves the gradient in the gain. -/
theorem arr3 (ρ : Fin 1536 → EReal) (h : ∀ r l, V c main_v3_4 (ix2 r l) = ρ r) :
    (dat2 V c).arrAt 3 cfg2.N = DG (V c main_v4_0) (V c main_v0) ρ := by
  refine (dat2 V c).arrAt_eq_of_covers 3 _ (by decide +kernel) fun t _ y => ?_
  blk_simp
  rw [after2_3]
  frame_out
  have ht : t.val < 7 := t.isLt
  obtain ⟨r, d, rfl⟩ : ∃ (r : Fin 1) (d : Fin 512), y = ix2 r d := ⟨y 0, y 1, by blk_ext []⟩
  obtain rfl : r = 0 := Subsingleton.elim _ _
  have he : (((View.whole main_v5).slice (win2_3.rect t)).emb (ix2 0 d)) =
      ix2 (0 : Fin 1) (⟨t.val * 512 + d.val, by omega⟩ : Fin 3584) := by blk_ext [idx t]
  refine Eq.trans ?_ (congrArg (DG _ _ _) he).symm
  refine (pay1 _ _ _ ρ (fun r l => (blk_rs V c t r l).trans (h r l)) d).trans ?_
  refine Finset.sum_congr (M := EReal) rfl fun r _ => ?_
  rw [blk_dh V c t r d ⟨t.val * 512 + d.val, by omega⟩ rfl, blk_x V c t r d ⟨t.val * 512 + d.val, by omega⟩ rfl]
  rfl
end Cert.KernelIdeal.Dgamma
-- ==== Proof.Whole.lean ====
/- The idealized kernel run whole: its five results. -/
module
public import proofs.«01_k».proof.Proof.Results
public import proofs.«01_k».proof.Proof.Act
public import proofs.«01_k».proof.Proof.Main
public import proofs.«01_k».proof.Proof.Dgamma
public import proofs.«01_k».proof.Proof.Gen.KernelIdeal.Frame
public import Idealize.ShloMosaic.Lib.Pipeline.ValueKit
public import Idealize.ShloMosaic.Lib.Claim
set_option maxRecDepth 16384
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.KernelIdeal.Whole
open Cert.KernelIdeal Cert.KernelIdeal.Gen Cert.Model
variable (m : (ℓ : Loc nD τ sig) → Buf (Elt Ideal) ℓ) (ρ : Dev nD → PrngReg) (c : Dev nD)

/-! ### What the first launch reads -/

/-- The six arguments of core `c`. -/
abbrev A0 : FVec Ideal S6x256x3584 .bf16 := m ((c : Thread nD τ).loc main_arg0)
/-- The reference gain. -/
abbrev A1 : FVec Ideal S3584 .f32 := m ((c : Thread nD τ).loc main_arg1)
/-- The quantized gain. -/
abbrev A2 : FVec Ideal S3584 .f32 := m ((c : Thread nD τ).loc main_arg2)
/-- The reference weight. -/
abbrev A3 : FVec Ideal S3584x18944 .bf16 := m ((c : Thread nD τ).loc main_arg3)
/-- The packed weight. -/
abbrev A4 : Vec Ideal S1792x18944 .i8 := m ((c : Thread nD τ).loc main_arg4)
/-- The weight scales. -/
abbrev A5 : FVec Ideal S28x18944 .f32 := m ((c : Thread nD τ).loc main_arg5)

/-- The activations by token, as the first launch reads them. -/
theorem v1_x (r : Fin 1536) (d : Fin 3584) : V1 m ρ c main_v0 (ix2 r d) = ax (A0 m c) r d := by
  show StableHlo.after hostOps0 _ (Proc.devRef .tc main_v0) _ = _
  entry_read
  pointwise [ax]
/-- The reference gain, as the first launch reads it. -/
theorem v1_g0 (d : Fin 3584) : V1 m ρ c main_v1 (ix2 0 d) = ag (A1 m c) d := by
  show StableHlo.after hostOps0 _ (Proc.devRef .tc main_v1) _ = _
  entry_read
  pointwise [ag]
/-- The quantized gain, as the first launch reads it. -/
theorem v1_g (d : Fin 3584) : V1 m ρ c main_v2 (ix2 0 d) = ag (A2 m c) d := by
  show StableHlo.after hostOps0 _ (Proc.devRef .tc main_v2) _ = _
  entry_read
  pointwise [ag]

/-- A row of the activations. -/
theorem row_x (r : Fin 1536) : (fun d => V1 m ρ c main_v0 (ix2 r d)) = ax (A0 m c) r := funext fun d => v1_x m ρ c r d
/-- The reference gain, whole. -/
theorem row_g0 : (fun d => V1 m ρ c main_v1 (ix2 0 d)) = ag (A1 m c) := funext fun d => v1_g0 m ρ c d
/-- The quantized gain, whole. -/
theorem row_g : (fun d => V1 m ρ c main_v2 (ix2 0 d)) = ag (A2 m c) := funext fun d => v1_g m ρ c d

/-! ### What it leaves -/

/-- The first launch leaves the gated rows. -/
theorem v2_h (r : Fin 1536) (d : Fin 3584) :
    V2 m ρ c main_v3_0 (ix2 r d) = hgt (ax (A0 m c) r) (ag (A1 m c)) d := by
  rw [show V2 m ρ c main_v3_0 = _ from (W2_arr m ρ c 3).trans (Act.arr3 (V1 m ρ) c)]
  show hgt _ _ _ = _
  rw [← row_x m ρ c r, ← row_g0 m ρ c]
  rfl
/-- The first launch leaves the quantized rows. -/
theorem v2_a (r : Fin 1536) (d : Fin 3584) :
    V2 m ρ c main_v3_1 (ix2 r d) = q (ax (A0 m c) r) (ag (A2 m c)) d := by
  rw [show V2 m ρ c main_v3_1 = _ from (W2_arr m ρ c 4).trans (Act.arr4 (V1 m ρ) c)]
  show q _ _ _ = _
  rw [← row_x m ρ c r, ← row_g m ρ c]
  rfl
/-- The first launch leaves the codes. -/
theorem v2_code (r : Fin 1536) (d : Fin 3584) :
    V2 m ρ c main_v3_2 (ix2 r d) = code (ax (A0 m c) r) (ag (A2 m c)) d := by
  rw [show V2 m ρ c main_v3_2 = _ from (W2_arr m ρ c 5).trans (Act.arr5 (V1 m ρ) c)]
  show code _ _ _ = _
  rw [← row_x m ρ c r, ← row_g m ρ c]
  rfl
/-- The first launch leaves the scales, in every lane. -/
theorem v2_scale (r : Fin 1536) (l : Fin 128) :
    V2 m ρ c main_v3_3 (ix2 r l) = sA (ax (A0 m c) r) (ag (A2 m c)) := by
  rw [show V2 m ρ c main_v3_3 = _ from (W2_arr m ρ c 6).trans (Act.arr6 (V1 m ρ) c)]
  show sA _ _ = _
  rw [← row_x m ρ c r, ← row_g m ρ c]
  rfl
/-- The first launch leaves the reciprocal norms, in every lane. -/
theorem v2_rstd (r : Fin 1536) (l : Fin 128) :
    V2 m ρ c main_v3_4 (ix2 r l) = rstd (ax (A0 m c) r) := by
  rw [show V2 m ρ c main_v3_4 = _ from (W2_arr m ρ c 7).trans (Act.arr7 (V1 m ρ) c)]
  show rstd _ = _
  rw [← row_x m ρ c r]
  rfl
/-- The reference weight is unchanged. -/
theorem v2_wr : V2 m ρ c main_arg3 = A3 m c := W2_args m ρ c main_arg3 (by decide)
/-- The packed weight is unchanged. -/
theorem v2_wp : V2 m ρ c main_arg4 = A4 m c := W2_args m ρ c main_arg4 (by decide)
/-- The weight scales are unchanged. -/
theorem v2_ws : V2 m ρ c main_arg5 = A5 m c := W2_args m ρ c main_arg5 (by decide)

/-! ### What the second launch leaves -/

/-- A column of the full-precision output, in the arguments. -/
theorem cf_eq (o : Fin 18944) : Main.cf (V2 m ρ c main_v3_0) (V2 m ρ c main_arg3) o
    = YF (ax (A0 m c)) (ag (A1 m c)) (ar (A3 m c)) o := by
  rw [v2_wr]
  exact congrArg (fun h => yf h _) (funext fun r => funext fun d => v2_h m ρ c r d)
/-- A column of the dequantized weight, in the arguments. -/
theorem cw_eq (o : Fin 18944) : Main.cw (V2 m ρ c main_arg4) (V2 m ρ c main_arg5) o
    = WQ (ap (A4 m c)) (asc (A5 m c)) o := by
  rw [v2_wp, v2_ws]
  rfl
/-- A column of the quantized output, in the arguments. -/
theorem cq_eq (o : Fin 18944) : Main.cq (V2 m ρ c main_v3_1) (fun r => sA (ax (A0 m c) r) (ag (A2 m c)))
      (V2 m ρ c main_arg4) (V2 m ρ c main_arg5) o
    = YQ (ax (A0 m c)) (ag (A2 m c)) (ap (A4 m c)) (asc (A5 m c)) o := by
  unfold Main.cq YQ
  rw [cw_eq]
  exact congrArg (fun a => yq a _ _) (funext fun r => funext fun d => v2_a m ρ c r d)

/-- The second launch leaves the divergences. -/
theorem v3_kl (o : Fin 18944) : V3 m ρ c main_v4_1 (ix2 0 o)
    = KL (ax (A0 m c)) (ag (A1 m c)) (ag (A2 m c)) (ar (A3 m c)) (ap (A4 m c)) (asc (A5 m c)) o := by
  rw [show V3 m ρ c main_v4_1 = _ from (W3_arr m ρ c 7).trans
    (Main.arr7 (V2 m ρ) c (fun r => sA (ax (A0 m c) r) (ag (A2 m c))) (v2_scale m ρ c))]
  exact congrArg₂ kl (cf_eq m ρ c o) (cq_eq m ρ c o)
/-- The second launch leaves the gradient in the activations. -/
theorem v3_dh (r : Fin 1536) (d : Fin 3584) : V3 m ρ c main_v4_0 (ix2 r d)
    = DH (ax (A0 m c)) (ag (A1 m c)) (ag (A2 m c)) (ar (A3 m c)) (ap (A4 m c)) (asc (A5 m c)) r d := by
  rw [show V3 m ρ c main_v4_0 = _ from (W3_arr m ρ c 6).trans
    (Main.arr6 (V2 m ρ) c (fun r => sA (ax (A0 m c) r) (ag (A2 m c))) (v2_scale m ρ c))]
  refine Finset.sum_congr (M := EReal) rfl fun o _ => ?_
  rw [cf_eq, cq_eq, cw_eq]
  rfl
/-- The activations are unchanged by the second launch. -/
theorem v3_x (r : Fin 1536) (d : Fin 3584) : V3 m ρ c main_v0 (ix2 r d) = ax (A0 m c) r d := by
  rw [show V3 m ρ c main_v0 = V1 m ρ c main_v0 from
    (W3_of m ρ c main_v0 (by decide)).trans (W2_of m ρ c main_v0 (by decide))]
  exact v1_x m ρ c r d
/-- The reciprocal norms are unchanged by the second launch. -/
theorem v3_rstd (r : Fin 1536) (l : Fin 128) : V3 m ρ c main_v3_4 (ix2 r l) = rstd (ax (A0 m c) r) := by
  rw [show V3 m ρ c main_v3_4 = V2 m ρ c main_v3_4 from W3_of m ρ c main_v3_4 (by decide)]
  exact v2_rstd m ρ c r l

/-! ### What the third launch leaves -/

/-- The third launch leaves the gradient in the gain. -/
theorem v4_dg (d : Fin 3584) : V4 m ρ c main_v5 (ix2 0 d)
    = DGAMMA (ax (A0 m c)) (ag (A1 m c)) (ag (A2 m c)) (ar (A3 m c)) (ap (A4 m c)) (asc (A5 m c)) d := by
  rw [show V4 m ρ c main_v5 = _ from (W4_arr m ρ c 3).trans
    (Dgamma.arr3 (V3 m ρ) c (fun r => rstd (ax (A0 m c) r)) (v3_rstd m ρ c))]
  refine Finset.sum_congr (M := EReal) rfl fun r _ => ?_
  refine congrArg₂ (· * ·) (v3_dh m ρ c r d) ?_
  exact congrArg (· * rstd (ax (A0 m c) r)) (v3_x m ρ c r d)
/-- The divergences are unchanged by the third launch. -/
theorem v4_kl (o : Fin 18944) : V4 m ρ c main_v4_1 (ix2 0 o)
    = KL (ax (A0 m c)) (ag (A1 m c)) (ag (A2 m c)) (ar (A3 m c)) (ap (A4 m c)) (asc (A5 m c)) o := by
  rw [show V4 m ρ c main_v4_1 = V3 m ρ c main_v4_1 from W4_of m ρ c main_v4_1 (by decide)]
  exact v3_kl m ρ c o
/-- The gradient in the activations is unchanged by the third launch. -/
theorem v4_dh (r : Fin 1536) (d : Fin 3584) : V4 m ρ c main_v4_0 (ix2 r d)
    = DH (ax (A0 m c)) (ag (A1 m c)) (ag (A2 m c)) (ar (A3 m c)) (ap (A4 m c)) (asc (A5 m c)) r d := by
  rw [show V4 m ρ c main_v4_0 = V3 m ρ c main_v4_0 from W4_of m ρ c main_v4_0 (by decide)]
  exact v3_dh m ρ c r d
/-- The codes are unchanged by the later launches. -/
theorem v4_code (r : Fin 1536) (d : Fin 3584) :
    V4 m ρ c main_v3_2 (ix2 r d) = code (ax (A0 m c) r) (ag (A2 m c)) d := by
  rw [show V4 m ρ c main_v3_2 = V2 m ρ c main_v3_2 from
    (W4_of m ρ c main_v3_2 (by decide)).trans (W3_of m ρ c main_v3_2 (by decide))]
  exact v2_code m ρ c r d
/-- The scales are unchanged by the later launches. -/
theorem v4_scale (r : Fin 1536) (l : Fin 128) :
    V4 m ρ c main_v3_3 (ix2 r l) = sA (ax (A0 m c) r) (ag (A2 m c)) := by
  rw [show V4 m ρ c main_v3_3 = V2 m ρ c main_v3_3 from
    (W4_of m ρ c main_v3_3 (by decide)).trans (W3_of m ρ c main_v3_3 (by decide))]
  exact v2_scale m ρ c r l

/-! ### The results -/

/-- The first result is the divergences. -/
theorem kl_eq : W5 m ρ c (Proc.devRef .tc main_v6) = resKL (A0 m c) (A1 m c) (A2 m c) (A3 m c) (A4 m c) (A5 m c) := by
  funext i
  obtain ⟨o, rfl⟩ : ∃ o : Fin 18944, i = ix1 o := ⟨i 0, by blk_ext []⟩
  refine Eq.trans ?_ (v4_kl m ρ c o)
  show StableHlo.after hostOps3 _ (Proc.devRef .tc main_v6) _ = _
  entry_read
  pointwise []
/-- The second result is the gradient in the gain. -/
theorem dg_eq : W5 m ρ c (Proc.devRef .tc main_v7) = resDG (A0 m c) (A1 m c) (A2 m c) (A3 m c) (A4 m c) (A5 m c) := by
  funext i
  obtain ⟨d, rfl⟩ : ∃ d : Fin 3584, i = ix1 d := ⟨i 0, by blk_ext []⟩
  refine Eq.trans ?_ (v4_dg m ρ c d)
  show StableHlo.after hostOps3 _ (Proc.devRef .tc main_v7) _ = _
  entry_read
  pointwise []
/-- The third result is the gradient in the activations. -/
theorem dh_eq : W5 m ρ c (Proc.devRef .tc main_v8) = resDH (A0 m c) (A1 m c) (A2 m c) (A3 m c) (A4 m c) (A5 m c) := by
  funext i
  obtain ⟨b, s, d, rfl⟩ : ∃ (b : Fin 6) (s : Fin 256) (d : Fin 3584), i = ix3 b s d := ⟨i 0, i 1, i 2, by blk_ext []⟩
  refine Eq.trans ?_ (v4_dh m ρ c (tok b s) d)
  show StableHlo.after hostOps3 _ (Proc.devRef .tc main_v8) _ = _
  entry_read
  pointwise [tok]
/-- The fourth result is the activation codes. -/
theorem code_eq : W5 m ρ c (Proc.devRef .tc main_v9) = resCode (A0 m c) (A2 m c) := by
  funext i
  obtain ⟨b, s, d, rfl⟩ : ∃ (b : Fin 6) (s : Fin 256) (d : Fin 3584), i = ix3 b s d := ⟨i 0, i 1, i 2, by blk_ext []⟩
  refine Eq.trans ?_ (v4_code m ρ c (tok b s) d)
  show StableHlo.after hostOps3 _ (Proc.devRef .tc main_v9) _ = _
  entry_read
  pointwise [tok]
/-- The fifth result is the activation scales. -/
theorem scale_eq : W5 m ρ c (Proc.devRef .tc main_v12) = resScale (A0 m c) (A2 m c) := by
  funext i
  obtain ⟨b, s, rfl⟩ : ∃ (b : Fin 6) (s : Fin 256), i = ix2 b s := ⟨i 0, i 1, by blk_ext []⟩
  refine Eq.trans ?_ (v4_scale m ρ c (tok b s) 0)
  show StableHlo.after hostOps3 _ (Proc.devRef .tc main_v12) _ = _
  entry_read
  pointwise [tok]

-- `θ_run_regions_kit_sems`'s implicit arguments are found by unifying its conclusion with this one, which takes unfolding
-- plain definitions in a metavariable's type
set_option backward.isDefEq.respectTransparency.types false in
/-- Every execution of the kernel terminates with the five results at their specified values and the arguments unchanged. -/
theorem run : θ_run defs (onTc (τ := τ) (main (F := Ideal))) ⟨m, fun _ => 0, ρ⟩ (fun r => ∀ c : Dev nD,
      r.2.mem ((c.tc : Thread nD τ).loc main_v6) = resKL (A0 m c) (A1 m c) (A2 m c) (A3 m c) (A4 m c) (A5 m c)
      ∧ r.2.mem ((c.tc : Thread nD τ).loc main_v7) = resDG (A0 m c) (A1 m c) (A2 m c) (A3 m c) (A4 m c) (A5 m c)
      ∧ r.2.mem ((c.tc : Thread nD τ).loc main_v8) = resDH (A0 m c) (A1 m c) (A2 m c) (A3 m c) (A4 m c) (A5 m c)
      ∧ r.2.mem ((c.tc : Thread nD τ).loc main_v9) = resCode (A0 m c) (A2 m c)
      ∧ r.2.mem ((c.tc : Thread nD τ).loc main_v12) = resScale (A0 m c) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨(h c _ (mem_uc main_v6 (by decide))).trans (kl_eq m ρ c),
       (h c _ (mem_uc main_v7 (by decide))).trans (dg_eq m ρ c),
       (h c _ (mem_uc main_v8 (by decide))).trans (dh_eq m ρ c),
       (h c _ (mem_uc main_v9 (by decide))).trans (code_eq m ρ c),
       (h c _ (mem_uc main_v12 (by decide))).trans (scale_eq m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)
end Cert.KernelIdeal.Whole
-- ==== Proof.Reference.lean ====
/- The reference: activations, weight, outputs, read at scalars. -/
module
public import proofs.«01_k».proof.Proof.Results
public import proofs.«01_k».proof.Proof.Scalars
public import proofs.«01_k».proof.Proof.Gen.ReferenceIdeal.Read
public import Idealize.ShloMosaic.Lib.Pointwise
public import Idealize.ShloMosaic.Lib.IdealHost
public import Idealize.ShloMosaic.Lib.Pipeline.ValueKit
set_option maxRecDepth 16384
@[expose] public section
noncomputable section
open Idealize.ShloMosaic Idealize.ShloMosaic.TcCoe Idealize.SL.Sem
namespace Cert.ReferenceIdeal.Whole
open Cert.ReferenceIdeal Cert.ReferenceIdeal.Read Cert.Model

/-- A sum over the sequences and positions is a sum over the tokens. -/
theorem red {n : Nat} (h : (⟨3, ![6, 256, n]⟩ : Shape).ReducesTo [0, 1] ⟨1, ![n]⟩)
    (v : (⟨3, ![6, 256, n]⟩ : Shape).Idx → EReal) (o : Fin n) (f : Fin 1536 → EReal)
    (hv : ∀ (b : Fin 6) (s : Fin 256), v (ix3 b s o) = f (tok b s)) :
    Ideal.hostReduceAdd h v (Ideal.ofBits .f32 0#32) (ix1 o) = ∑ r, f r := by
  have hfib : ∀ i : (⟨3, ![6, 256, n]⟩ : Shape).Idx,
      h.drop i = ix1 o ↔ ∃ k : Fin 6 × Fin 256, ix3 k.1 k.2 o = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  have hs : (∑ i ∈ Finset.univ.filter (fun i => h.drop i = ix1 o), v i : EReal) = ∑ b : Fin 6, ∑ s : Fin 256, v (ix3 b s o) := by
    refine (Finset.sum_filter_eq_sum_of_fiber _ (fun k : Fin 6 × Fin 256 => ix3 k.1 k.2 o)
      (fun _ _ e => Prod.ext (congrFun e 0) (congrFun e 1)) hfib v).trans ?_
    simp only [Fintype.sum_prod_type]
  have h0 : Ideal.ofBits .f32 0#32 = 0 := by simp
  show Ideal.ofBits .f32 0#32 + (∑ i ∈ Finset.univ.filter (fun i => h.drop i = ix1 o), v i : EReal) = _
  rw [hs, h0, zero_add]
  exact Fin.sum_mul_add_congr (M := EReal) (f := f) (fun b s hl => hv b s) (by decide)

/-- A sum over the features is a sum over the pairs of neighbours. -/
theorem pairs (f : Fin 3584 → EReal) :
    (∑ k : Fin 1792, f ⟨2 * k.val, by omega⟩) + (∑ k : Fin 1792, f ⟨2 * k.val + 1, by omega⟩) = ∑ d, f d := by
  rw [← Finset.sum_add_distrib]
  refine Eq.trans (Finset.sum_congr (M := EReal) rfl fun k _ => ?_)
    (Fin.sum_mul_add_congr (M := EReal) (S := 1792) (n := 2) (F := fun k b => f ⟨k.val * 2 + b.val, by omega⟩) (f := f)
      (fun s k hl => rfl) (by decide))
  rw [Fin.sum_univ_two]
  refine congrArg₂ (· + ·) (congrArg f (Fin.ext ?_)) (congrArg f (Fin.ext ?_))
  · show 2 * k.val = k.val * 2 + 0; omega
  · show 2 * k.val + 1 = k.val * 2 + 1; omega

variable (x0 : FVec Ideal S6x256x3584 .bf16) (x1 x2 : FVec Ideal S3584 .f32)
  (x3 : FVec Ideal S3584x18944 .bf16) (x4 : Vec Ideal S1792x18944 .i8)
  (x5 : FVec Ideal S28x18944 .f32)

/-- The row of a token is the row of the activations at its sequence and position. -/
theorem row (b : Fin 6) (s : Fin 256) : ax x0 (tok b s) = fun d => x0 (ix3 b s d) := funext fun d => ax_tok x0 b s d

/-! ### The activations -/

/-- The reciprocal norm of a row. -/
theorem v8 (b : Fin 6) (s : Fin 256) : val_main_v8 (F := Ideal) x0 (ix3 b s 0) = rstd (ax x0 (tok b s)) := by
  rw [row]
  pointwise [val_main_v8, val_main_v7, val_main_v6, val_main_v5, val_main_v4, val_main_v3, val_main_v2, val_main_v1, val_main_v0, val_main_cst, val_main_cst_0, val_main_cst_1, rstd]
/-- The normalized row. -/
theorem v10 (b : Fin 6) (s : Fin 256) (d : Fin 3584) :
    val_main_v10 (F := Ideal) x0 (ix3 b s d) = nrm (ax x0 (tok b s)) d := by
  rw [nrm, ← v8, row]
  pointwise [val_main_v10, val_main_v9, val_main_v0]
/-- The normalized row times the reference gain. -/
theorem v14 (b : Fin 6) (s : Fin 256) (d : Fin 3584) :
    val_main_v14 (F := Ideal) x0 x1 (ix3 b s d) = hgt (ax x0 (tok b s)) (ag x1) d := by
  pointwise [val_main_v14, val_main_v13, val_main_v12, val_main_v11, v10, hgt, ag]
/-- The normalized row times the quantized gain. -/
theorem v18 (b : Fin 6) (s : Fin 256) (d : Fin 3584) :
    val_main_v18 (F := Ideal) x0 x2 (ix3 b s d) = hgt (ax x0 (tok b s)) (ag x2) d := by
  pointwise [val_main_v18, val_main_v17, val_main_v16, v10, hgt, ag]
/-- The largest absolute value of a row. -/
theorem v20 (b : Fin 6) (s : Fin 256) :
    val_main_v20 (F := Ideal) x0 x2 (ix2 b s) = amax (ax x0 (tok b s)) (ag x2) := by
  pointwise [val_main_v20, val_main_v19, val_main_cst_2, v18, amax]
/-- The scale of a row. -/
theorem v25 (b : Fin 6) (s : Fin 256) :
    val_main_v25 (F := Ideal) x0 x2 (ix2 b s) = sA (ax x0 (tok b s)) (ag x2) := by
  rw [val_main_v25_apply, val_main_v22_apply, val_main_v24_apply, v20, sA, val_main_v23_apply, val_main_v21_apply, val_main_cst_4_apply,
    val_main_cst_3_apply, val_main_call0_v1_apply, val_main_call0_v0_apply, val_main_cst_5_apply]
  generalize amax (ax x0 (tok b s)) (ag x2) = a
  pointwise []
/-- The rounded and clipped quotient of a row by its scale. -/
theorem v30 (b : Fin 6) (s : Fin 256) (d : Fin 3584) :
    val_main_v30 (F := Ideal) x0 x2 (ix3 b s d) = q (ax x0 (tok b s)) (ag x2) d := by
  rw [val_main_v30_apply, val_main_call2_v2_apply, val_main_call2_v4_apply, val_main_call2_v3_apply, val_main_cst_7_apply,
    val_main_call2_v1_apply, val_main_call2_v0_apply, val_main_cst_6_apply, val_main_v29_apply, val_main_v28_apply, v18,
    val_main_v27_apply, val_main_v26_apply]
  have e : idx_main_v26 (idx_main_v27 (ix3 b s d)) = ix2 b s := by
    funext a; apply Fin.ext
    match a with
    | ⟨0, _⟩ => rfl
    | ⟨1, _⟩ => rfl
  rw [e, v25, q]
  generalize hgt (ax x0 (tok b s)) (ag x2) d = h
  generalize sA (ax x0 (tok b s)) (ag x2) = a
  rfl
/-- The code of an activation. -/
theorem v32 (b : Fin 6) (s : Fin 256) (d : Fin 3584) :
    val_main_v32 (F := Ideal) x0 x2 (ix3 b s d) = code (ax x0 (tok b s)) (ag x2) d := by
  rw [← code_eq, ← v30]
  rfl
/-- The even entries of the codes, as numbers. -/
theorem v63 (b : Fin 6) (s : Fin 256) (k : Fin 1792) :
    val_main_v63 (F := Ideal) x0 x2 (ix3 b s k) = q (ax x0 (tok b s)) (ag x2) ⟨2 * k.val, by omega⟩ := by
  rw [← code_toInt]
  pointwise [val_main_v63, val_main_v62, val_main_v61, v32]
  rfl
/-- The odd entries of the codes, as numbers. -/
theorem v66 (b : Fin 6) (s : Fin 256) (k : Fin 1792) :
    val_main_v66 (F := Ideal) x0 x2 (ix3 b s k) = q (ax x0 (tok b s)) (ag x2) ⟨2 * k.val + 1, by omega⟩ := by
  have e : (⟨2 * k.val + 1, by omega⟩ : Fin 3584) = ⟨1 + 2 * k.val, by omega⟩ := Fin.ext (Nat.add_comm _ _)
  rw [e, ← code_toInt]
  pointwise [val_main_v66, val_main_v65, val_main_v64, v32]
  rfl
/-! ### The weight -/

/-- Choosing by a signed comparison. -/
theorem sge (v u t : BitVec 32) : Scalar.select (IntOp.cmpi .sge v u) t v = if u.sle v then t else v := by
  unfold Scalar.select IntOp.cmpi
  cases h : u.sle v <;> simp [h]
/-- The low nibble of a byte, as the reference computes it. -/
theorem low (w : BitVec 8) :
    Scalar.select (IntOp.cmpi .sge (IntOp.andi (w.setWidth 32) 15#32) 8#32)
      (IntOp.subi (IntOp.andi (w.setWidth 32) 15#32) 16#32) (IntOp.andi (w.setWidth 32) 15#32)
    = (if (8#32).sle (w.setWidth 32 &&& 15#32) then (w.setWidth 32 &&& 15#32) - 16#32 else w.setWidth 32 &&& 15#32) := by
  exact sge _ _ _
/-- The high nibble of a byte, as the reference computes it. -/
theorem high (w : BitVec 8) :
    Scalar.select (IntOp.cmpi .sge (IntOp.shrsi ArithUnit.host (w.setWidth 32) 4#32) 8#32)
      (IntOp.subi (IntOp.shrsi ArithUnit.host (w.setWidth 32) 4#32) 16#32) (IntOp.shrsi ArithUnit.host (w.setWidth 32) 4#32)
    = (if (8#32).sle ((w.setWidth 32).sshiftRight 4) then ((w.setWidth 32).sshiftRight 4) - 16#32 else (w.setWidth 32).sshiftRight 4) := by
  have e : IntOp.shrsi ArithUnit.host (w.setWidth 32) 4#32 = (w.setWidth 32).sshiftRight 4 := by
    unfold IntOp.shrsi
    rw [if_pos (by decide)]
    rfl
  rw [e]
  exact sge _ _ _
/-- The value of a low nibble of the packed weight. -/
theorem v42 (k : Fin 1792) (o : Fin 18944) : val_main_v42 (F := Ideal) x4 (ix2 k o) = nib 0 (x4 (ix2 k o)) := by
  pointwise [val_main_v42, val_main_v41, val_main_v40, val_main_v39, val_main_v38, val_main_v37, val_main_v36, val_main_v35, val_main_v34, val_main_c, val_main_c_8, val_main_c_9]
  rw [nib, ← ref_low]
  generalize x4 (ix2 k o) = w
  exact congrArg (fun v : BitVec 32 => ((v.toInt : ℝ) : EReal)) (low w)
/-- The value of a high nibble of the packed weight. -/
theorem v55 (k : Fin 1792) (o : Fin 18944) : val_main_v55 (F := Ideal) x4 (ix2 k o) = nib 1 (x4 (ix2 k o)) := by
  pointwise [val_main_v55, val_main_v54, val_main_v53, val_main_v52, val_main_v51, val_main_v50, val_main_v49, val_main_v48, val_main_v34, val_main_c_10, val_main_c_11, val_main_c_12]
  rw [nib, ← ref_high]
  generalize x4 (ix2 k o) = w
  exact congrArg (fun v : BitVec 32 => ((v.toInt : ℝ) : EReal)) (high w)
/-- The even features of the dequantized weight. -/
theorem v47 (k : Fin 1792) (o : Fin 18944) :
    val_main_v47 (F := Ideal) x4 x5 (ix2 k o) = WQ (ap x4) (asc x5) o ⟨2 * k.val, by omega⟩ := by
  pointwise [val_main_v47, val_main_v46, val_main_v45, val_main_v44, val_main_v43, val_main_v33, v42]
  have h0 : (⟨(2 * k.val) % 2, by omega⟩ : Fin 2) = 0 := Fin.ext (by show (2 * k.val) % 2 = 0; omega)
  have h1 : (⟨(2 * k.val) / 2, by omega⟩ : Fin 1792) = k := Fin.ext (by show (2 * k.val) / 2 = k.val; omega)
  have h2 : (⟨(2 * k.val) / 128, by omega⟩ : Fin 28) = ⟨k.val / 64, by omega⟩ := Fin.ext (by show (2 * k.val) / 128 = k.val / 64; omega)
  show _ = nib ⟨(2 * k.val) % 2, _⟩ (x4 (ix2 ⟨(2 * k.val) / 2, _⟩ o)) * x5 (ix2 ⟨(2 * k.val) / 128, _⟩ o)
  rw [h0, h1, h2]
/-- The odd features of the dequantized weight. -/
theorem v60 (k : Fin 1792) (o : Fin 18944) :
    val_main_v60 (F := Ideal) x4 x5 (ix2 k o) = WQ (ap x4) (asc x5) o ⟨2 * k.val + 1, by omega⟩ := by
  pointwise [val_main_v60, val_main_v59, val_main_v58, val_main_v57, val_main_v56, val_main_v33, v55]
  have h0 : (⟨(2 * k.val + 1) % 2, by omega⟩ : Fin 2) = 1 := Fin.ext (by show (2 * k.val + 1) % 2 = 1; omega)
  have h1 : (⟨(2 * k.val + 1) / 2, by omega⟩ : Fin 1792) = k := Fin.ext (by show (2 * k.val + 1) / 2 = k.val; omega)
  have h2 : (⟨(2 * k.val + 1) / 128, by omega⟩ : Fin 28) = ⟨k.val / 64, by omega⟩ := Fin.ext (by show (2 * k.val + 1) / 128 = k.val / 64; omega)
  show _ = nib ⟨(2 * k.val + 1) % 2, _⟩ (x4 (ix2 ⟨(2 * k.val + 1) / 2, _⟩ o)) * x5 (ix2 ⟨(2 * k.val + 1) / 128, _⟩ o)
  rw [h0, h1, h2]

/-! ### The two outputs -/

/-- The full-precision output. -/
theorem v15 (b : Fin 6) (s : Fin 256) (o : Fin 18944) :
    val_main_v15 (F := Ideal) x0 x1 x3 (ix3 b s o) = YF (ax x0) (ag x1) (ar x3) o (tok b s) := by
  pointwise [val_main_v15, v14, YF, yf, ar]
/-- The sum over even features plus the sum over odd features is the sum over all features. -/
theorem v69 (b : Fin 6) (s : Fin 256) (o : Fin 18944) :
    val_main_v69 (F := Ideal) x0 x2 x4 x5 (ix3 b s o)
      = ∑ d, q (ax x0 (tok b s)) (ag x2) d * WQ (ap x4) (asc x5) o d := by
  rw [← pairs]
  pointwise [val_main_v69, val_main_v68, val_main_v67, v63, v66, v47, v60]
/-- The quantized output. -/
theorem v72 (b : Fin 6) (s : Fin 256) (o : Fin 18944) :
    val_main_v72 (F := Ideal) x0 x2 x4 x5 (ix3 b s o) = YQ (ax x0) (ag x2) (ap x4) (asc x5) o (tok b s) := by
  rw [val_main_v72_apply, val_main_v71_apply, val_main_v70_apply, v69]
  have e : idx_main_v70 (idx_main_v71 (ix3 b s o)) = ix2 b s := by
    funext a; apply Fin.ext
    match a with
    | ⟨0, _⟩ => rfl
    | ⟨1, _⟩ => rfl
  rw [e, v25]
  rfl

end Cert.ReferenceIdeal.Whole

end
-- ==== Proof.Gradient.lean ====
/- The reference: means, variances, divergence, gradients, and its five results. -/
module
public import proofs.«01_k».proof.Proof.Reference
public import proofs.«01_k».proof.Proof.Scalars
public import proofs.«01_k».proof.Proof.Gen.ReferenceIdeal.Read
public import Idealize.ShloMosaic.Lib.Pointwise
public import Idealize.ShloMosaic.Lib.IdealHost
public import Idealize.ShloMosaic.Lib.Pipeline.ValueKit
set_option maxRecDepth 16384
@[expose] public section
noncomputable section
open Idealize.ShloMosaic Idealize.ShloMosaic.TcCoe Idealize.SL.Sem
namespace Cert.ReferenceIdeal.Whole
open Cert.ReferenceIdeal Cert.ReferenceIdeal.Read Cert.Model

/-- The column number, after its two broadcasts. -/
theorem ix1_eq {i : S18944.Idx} {o : Fin 18944} (h : (i 0).val = o.val) : i = ix1 o := by
  funext a; apply Fin.ext
  match a with
  | ⟨0, _⟩ => exact h

variable (x0 : FVec Ideal S6x256x3584 .bf16) (x1 x2 : FVec Ideal S3584 .f32)
  (x3 : FVec Ideal S3584x18944 .bf16) (x4 : Vec Ideal S1792x18944 .i8)
  (x5 : FVec Ideal S28x18944 .f32)

/-! ### Means and variances of the columns -/

/-- The sum of a column of the full-precision output. -/
theorem v73 (o : Fin 18944) : val_main_v73 (F := Ideal) x0 x1 x3 (ix1 o) = ∑ r, (YF (ax x0) (ag x1) (ar x3) o) r :=
  red _ (val_main_v15 (F := Ideal) x0 x1 x3) o _ fun b s => v15 x0 x1 x3 b s o
/-- The mean of a column of the full-precision output. -/
theorem v75 (o : Fin 18944) : val_main_v75 (F := Ideal) x0 x1 x3 (ix1 o) = mean (YF (ax x0) (ag x1) (ar x3) o) := by
  rw [val_main_v75_apply, v73, val_main_v74_apply, val_main_cst_14_apply]
  exact div_1536 _
/-- The squared deviation of an entry of the full-precision output. -/
theorem v79 (b : Fin 6) (s : Fin 256) (o : Fin 18944) : val_main_v79 (F := Ideal) x0 x1 x3 (ix3 b s o)
    = ((YF (ax x0) (ag x1) (ar x3) o) (tok b s) - mean (YF (ax x0) (ag x1) (ar x3) o)) * ((YF (ax x0) (ag x1) (ar x3) o) (tok b s) - mean (YF (ax x0) (ag x1) (ar x3) o)) := by
  rw [val_main_v79_apply, val_main_v78_apply, v15 x0 x1 x3, val_main_v77_apply, val_main_v76_apply,
    ix1_eq (i := idx_main_v76 (idx_main_v77 (ix3 b s o))) (o := o) rfl, v75]
  rfl
/-- The sum of the squared deviations of a column of the full-precision output. -/
theorem v80 (o : Fin 18944) : val_main_v80 (F := Ideal) x0 x1 x3 (ix1 o)
    = ∑ r, ((YF (ax x0) (ag x1) (ar x3) o) r - mean (YF (ax x0) (ag x1) (ar x3) o)) * ((YF (ax x0) (ag x1) (ar x3) o) r - mean (YF (ax x0) (ag x1) (ar x3) o)) :=
  red _ (val_main_v79 (F := Ideal) x0 x1 x3) o (fun r => ((YF (ax x0) (ag x1) (ar x3) o) r - mean (YF (ax x0) (ag x1) (ar x3) o)) * ((YF (ax x0) (ag x1) (ar x3) o) r - mean (YF (ax x0) (ag x1) (ar x3) o))) fun b s => v79 x0 x1 x3 b s o
/-- The variance of a column of the full-precision output. -/
theorem v82 (o : Fin 18944) : val_main_v82 (F := Ideal) x0 x1 x3 (ix1 o) = var (YF (ax x0) (ag x1) (ar x3) o) := by
  rw [val_main_v82_apply, v80, val_main_v81_apply, val_main_cst_16_apply]
  exact div_1536 _
/-- The sum of a column of the quantized output. -/
theorem v83 (o : Fin 18944) : val_main_v83 (F := Ideal) x0 x2 x4 x5 (ix1 o) = ∑ r, (YQ (ax x0) (ag x2) (ap x4) (asc x5) o) r :=
  red _ (val_main_v72 (F := Ideal) x0 x2 x4 x5) o _ fun b s => v72 x0 x2 x4 x5 b s o
/-- The mean of a column of the quantized output. -/
theorem v85 (o : Fin 18944) : val_main_v85 (F := Ideal) x0 x2 x4 x5 (ix1 o) = mean (YQ (ax x0) (ag x2) (ap x4) (asc x5) o) := by
  rw [val_main_v85_apply, v83, val_main_v84_apply, val_main_cst_18_apply]
  exact div_1536 _
/-- The squared deviation of an entry of the quantized output. -/
theorem v89 (b : Fin 6) (s : Fin 256) (o : Fin 18944) : val_main_v89 (F := Ideal) x0 x2 x4 x5 (ix3 b s o)
    = ((YQ (ax x0) (ag x2) (ap x4) (asc x5) o) (tok b s) - mean (YQ (ax x0) (ag x2) (ap x4) (asc x5) o)) * ((YQ (ax x0) (ag x2) (ap x4) (asc x5) o) (tok b s) - mean (YQ (ax x0) (ag x2) (ap x4) (asc x5) o)) := by
  rw [val_main_v89_apply, val_main_v88_apply, v72 x0 x2 x4 x5, val_main_v87_apply, val_main_v86_apply,
    ix1_eq (i := idx_main_v86 (idx_main_v87 (ix3 b s o))) (o := o) rfl, v85]
  rfl
/-- The sum of the squared deviations of a column of the quantized output. -/
theorem v90 (o : Fin 18944) : val_main_v90 (F := Ideal) x0 x2 x4 x5 (ix1 o)
    = ∑ r, ((YQ (ax x0) (ag x2) (ap x4) (asc x5) o) r - mean (YQ (ax x0) (ag x2) (ap x4) (asc x5) o)) * ((YQ (ax x0) (ag x2) (ap x4) (asc x5) o) r - mean (YQ (ax x0) (ag x2) (ap x4) (asc x5) o)) :=
  red _ (val_main_v89 (F := Ideal) x0 x2 x4 x5) o (fun r => ((YQ (ax x0) (ag x2) (ap x4) (asc x5) o) r - mean (YQ (ax x0) (ag x2) (ap x4) (asc x5) o)) * ((YQ (ax x0) (ag x2) (ap x4) (asc x5) o) r - mean (YQ (ax x0) (ag x2) (ap x4) (asc x5) o))) fun b s => v89 x0 x2 x4 x5 b s o
/-- The variance of a column of the quantized output. -/
theorem v92 (o : Fin 18944) : val_main_v92 (F := Ideal) x0 x2 x4 x5 (ix1 o) = var (YQ (ax x0) (ag x2) (ap x4) (asc x5) o) := by
  rw [val_main_v92_apply, v90, val_main_v91_apply, val_main_cst_20_apply]
  exact div_1536 _

/-! ### The divergence and its gradient in the quantized output -/

/-- The full-precision variance plus the squared difference of the means. -/
theorem v95 (o : Fin 18944) : val_main_v95 (F := Ideal) x0 x1 x2 x3 x4 x5 (ix1 o) = num (YF (ax x0) (ag x1) (ar x3) o) (YQ (ax x0) (ag x2) (ap x4) (asc x5) o) := by
  rw [val_main_v95_apply, val_main_v94_apply, val_main_v93_apply, v82, v75, v85]
  rfl
/-- The divergence of a column. -/
theorem v105 (o : Fin 18944) : val_main_v105 (F := Ideal) x0 x1 x2 x3 x4 x5 (ix1 o)
    = KL (ax x0) (ag x1) (ag x2) (ar x3) (ap x4) (asc x5) o := by
  rw [val_main_v105_apply, val_main_v104_apply, val_main_cst_23_apply, val_main_v103_apply, val_main_v102_apply, val_main_v101_apply,
    val_main_v100_apply, val_main_cst_22_apply, val_main_v99_apply, val_main_v98_apply, val_main_cst_21_apply, val_main_v97_apply,
    val_main_v96_apply, v95, v92, v82]
  rfl
/-- The gradient in the mean of a column of the quantized output. -/
theorem v109 (o : Fin 18944) : val_main_v109 (F := Ideal) x0 x1 x2 x3 x4 x5 (ix1 o)
    = Ideal.div (Ideal.div (mean (YQ (ax x0) (ag x2) (ap x4) (asc x5) o) - mean (YF (ax x0) (ag x1) (ar x3) o)) (var (YQ (ax x0) (ag x2) (ap x4) (asc x5) o))) (Ideal.ofBits .f32 1184104448#32) := by
  rw [val_main_v109_apply, val_main_v108_apply, val_main_cst_24_apply, val_main_v107_apply, val_main_v106_apply, v92, v85, v75]
  rfl
/-- The gradient in the variance of a column of the quantized output. -/
theorem v120 (o : Fin 18944) : val_main_v120 (F := Ideal) x0 x1 x2 x3 x4 x5 (ix1 o)
    = Ideal.div (Ideal.div 1 (Ideal.ofBits .f32 1073741824#32 * var (YQ (ax x0) (ag x2) (ap x4) (asc x5) o))
            - Ideal.div (num (YF (ax x0) (ag x1) (ar x3) o) (YQ (ax x0) (ag x2) (ap x4) (asc x5) o)) (Ideal.ofBits .f32 1073741824#32 * (var (YQ (ax x0) (ag x2) (ap x4) (asc x5) o) * var (YQ (ax x0) (ag x2) (ap x4) (asc x5) o))))
          (Ideal.ofBits .f32 1184104448#32) := by
  rw [val_main_v120_apply, val_main_v119_apply, val_main_cst_28_apply, val_main_v118_apply, val_main_v117_apply, val_main_v116_apply,
    val_main_v115_apply, val_main_cst_27_apply, val_main_v114_apply, val_main_v113_apply, val_main_v112_apply, val_main_cst_26_apply,
    val_main_v111_apply, val_main_v110_apply, val_main_cst_25_apply, v95, v92]
  generalize var (YQ (ax x0) (ag x2) (ap x4) (asc x5) o) = a
  generalize num (YF (ax x0) (ag x1) (ar x3) o) (YQ (ax x0) (ag x2) (ap x4) (asc x5) o) = n
  pointwise []
/-- The gradient in an entry of the quantized output. -/
theorem v134 (b : Fin 6) (s : Fin 256) (o : Fin 18944) : val_main_v134 (F := Ideal) x0 x1 x2 x3 x4 x5 (ix3 b s o)
    = DY (ax x0) (ag x1) (ag x2) (ar x3) (ap x4) (asc x5) (tok b s) o := by
  rw [val_main_v134_apply, val_main_v133_apply, val_main_v132_apply, val_main_cst_30_apply, val_main_v131_apply, val_main_v130_apply,
    val_main_v129_apply, ix1_eq (i := idx_main_v129 (idx_main_v130 (ix3 b s o))) (o := o) rfl, v109, val_main_v128_apply, val_main_v127_apply,
    val_main_v126_apply, ix1_eq (i := idx_main_v126 (idx_main_v127 (ix3 b s o))) (o := o) rfl, v120, val_main_v125_apply, val_main_v124_apply,
    val_main_cst_29_apply, val_main_v123_apply, v72, val_main_v122_apply, val_main_v121_apply,
    ix1_eq (i := idx_main_v121 (idx_main_v122 (ix3 b s o))) (o := o) rfl, v85]
  rfl

/-! ### The gradients in the activations and in the gain -/

/-- The gradient in an even feature of the activations. -/
theorem v135 (b : Fin 6) (s : Fin 256) (k : Fin 1792) : val_main_v135 (F := Ideal) x0 x1 x2 x3 x4 x5 (ix3 b s k)
    = DH (ax x0) (ag x1) (ag x2) (ar x3) (ap x4) (asc x5) (tok b s) ⟨2 * k.val, by omega⟩ := by
  pointwise [val_main_v135, v134, v47, DH]
/-- The gradient in an odd feature of the activations. -/
theorem v136 (b : Fin 6) (s : Fin 256) (k : Fin 1792) : val_main_v136 (F := Ideal) x0 x1 x2 x3 x4 x5 (ix3 b s k)
    = DH (ax x0) (ag x1) (ag x2) (ar x3) (ap x4) (asc x5) (tok b s) ⟨2 * k.val + 1, by omega⟩ := by
  pointwise [val_main_v136, v134, v60, DH]
/-- The even and odd features interleaved: the gradient in the activations. -/
theorem v140 (b : Fin 6) (s : Fin 256) (d : Fin 3584) : val_main_v140 (F := Ideal) x0 x1 x2 x3 x4 x5 (ix3 b s d)
    = DH (ax x0) (ag x1) (ag x2) (ar x3) (ap x4) (asc x5) (tok b s) d := by
  pointwise [val_main_v140, val_main_v139, val_main_v138, val_main_v137, v135, v136]
  split
  · exact congrArg _ (Fin.ext (by show 2 * (d.val / 2) = d.val; omega))
  · exact congrArg _ (Fin.ext (by show 2 * (d.val / 2) + 1 = d.val; omega))
/-- The gradient in the activations times the normalized activations. -/
theorem v141 (b : Fin 6) (s : Fin 256) (d : Fin 3584) : val_main_v141 (F := Ideal) x0 x1 x2 x3 x4 x5 (ix3 b s d)
    = DH (ax x0) (ag x1) (ag x2) (ar x3) (ap x4) (asc x5) (tok b s) d * nrm (ax x0 (tok b s)) d := by
  rw [val_main_v141_apply, v140, v10]
  rfl
/-- The gradient in the gain. -/
theorem v142 (d : Fin 3584) : val_main_v142 (F := Ideal) x0 x1 x2 x3 x4 x5 (ix1 d)
    = DGAMMA (ax x0) (ag x1) (ag x2) (ar x3) (ap x4) (asc x5) d :=
  red _ (val_main_v141 (F := Ideal) x0 x1 x2 x3 x4 x5) d
    (fun r => DH (ax x0) (ag x1) (ag x2) (ar x3) (ap x4) (asc x5) r d * nrm (ax x0 r) d) fun b s => v141 x0 x1 x2 x3 x4 x5 b s d

/-! ### The five results, whole -/

/-- The reference returns the divergences. -/
theorem kl_eq : val_main_v105 (F := Ideal) x0 x1 x2 x3 x4 x5 = resKL x0 x1 x2 x3 x4 x5 :=
  funext fun i => (congrArg _ (ix1_eq (o := i 0) rfl)).trans (v105 x0 x1 x2 x3 x4 x5 (i 0))
/-- The reference returns the gradient in the gain. -/
theorem dgamma_eq : val_main_v142 (F := Ideal) x0 x1 x2 x3 x4 x5 = resDG x0 x1 x2 x3 x4 x5 :=
  funext fun i => (congrArg _ (by funext a; match a with | ⟨0, _⟩ => rfl : i = ix1 (i 0))).trans (v142 x0 x1 x2 x3 x4 x5 (i 0))
/-- The reference returns the gradient in the activations. -/
theorem dh_eq : val_main_v140 (F := Ideal) x0 x1 x2 x3 x4 x5 = resDH x0 x1 x2 x3 x4 x5 :=
  funext fun i => (congrArg _ (eq_ix3 i)).trans (v140 x0 x1 x2 x3 x4 x5 (i 0) (i 1) (i 2))
/-- The reference returns the activation codes. -/
theorem codes_eq : val_main_v32 (F := Ideal) x0 x2 = resCode x0 x2 :=
  funext fun i => (congrArg _ (eq_ix3 i)).trans (v32 x0 x2 (i 0) (i 1) (i 2))
/-- The reference returns the activation scales. -/
theorem scale_eq : val_main_v25 (F := Ideal) x0 x2 = resScale x0 x2 :=
  funext fun i => (congrArg _ (eq_ix2 i)).trans (v25 x0 x2 (i 0) (i 1))

end Cert.ReferenceIdeal.Whole

end
-- ==== Proof.Algebraic.lean ====
/- The idealized kernel and the reference leave the same five results. -/
module

public import proofs.«01_k».proof.Defs
public import proofs.«01_k».proof.Proof.Whole
public import proofs.«01_k».proof.Proof.Gradient
public import proofs.«01_k».proof.Proof.Gen.ReferenceIdeal.Run

set_option maxRecDepth 16384

@[expose] public section

noncomputable section

namespace Cert.Proof

open Idealize.ShloMosaic Idealize.SL.Sem Cert.Model

/-- A function of six arguments at equal arguments. -/
theorem congr6 {α₀ α₁ α₂ α₃ α₄ α₅ β : Type} (f : α₀ → α₁ → α₂ → α₃ → α₄ → α₅ → β)
    {a₀ b₀ : α₀} {a₁ b₁ : α₁} {a₂ b₂ : α₂} {a₃ b₃ : α₃} {a₄ b₄ : α₄} {a₅ b₅ : α₅}
    (h₀ : a₀ = b₀) (h₁ : a₁ = b₁) (h₂ : a₂ = b₂) (h₃ : a₃ = b₃) (h₄ : a₄ = b₄) (h₅ : a₅ = b₅) :
    f a₀ a₁ a₂ a₃ a₄ a₅ = f b₀ b₁ b₂ b₃ b₄ b₅ := by
  subst h₀ h₁ h₂ h₃ h₄ h₅; rfl

/-- From equal arguments, over the extended reals, the kernel and the reference leave the same divergences, the same
    two gradients, the same activation codes and the same activation scales, and both leave their arguments unchanged. -/
theorem algebraic : Cert.algebraic_KernelIdeal_ReferenceIdeal := by
  intro m g m' g' _ hag
  refine ⟨fun c => resKL (Cert.KernelIdeal.Whole.A0 m c) (Cert.KernelIdeal.Whole.A1 m c) (Cert.KernelIdeal.Whole.A2 m c)
      (Cert.KernelIdeal.Whole.A3 m c) (Cert.KernelIdeal.Whole.A4 m c) (Cert.KernelIdeal.Whole.A5 m c),
    fun c => resDG (Cert.KernelIdeal.Whole.A0 m c) (Cert.KernelIdeal.Whole.A1 m c) (Cert.KernelIdeal.Whole.A2 m c)
      (Cert.KernelIdeal.Whole.A3 m c) (Cert.KernelIdeal.Whole.A4 m c) (Cert.KernelIdeal.Whole.A5 m c),
    fun c => resDH (Cert.KernelIdeal.Whole.A0 m c) (Cert.KernelIdeal.Whole.A1 m c) (Cert.KernelIdeal.Whole.A2 m c)
      (Cert.KernelIdeal.Whole.A3 m c) (Cert.KernelIdeal.Whole.A4 m c) (Cert.KernelIdeal.Whole.A5 m c),
    fun c => resCode (Cert.KernelIdeal.Whole.A0 m c) (Cert.KernelIdeal.Whole.A2 m c),
    fun c => resScale (Cert.KernelIdeal.Whole.A0 m c) (Cert.KernelIdeal.Whole.A2 m c),
    Cert.KernelIdeal.Whole.run m g, ?_⟩
  refine (θ_run Cert.ReferenceIdeal.defs _ _).mono (fun r h c => ?_) (Cert.ReferenceIdeal.Value.run (F := Ideal) m' g')
  obtain ⟨h0, h1, h2, h3, h4, hargs⟩ := h c
  obtain ⟨e0, e1, e2, e3, e4, e5⟩ := hag c
  exact ⟨(h0.trans (Cert.ReferenceIdeal.Read.val_main_v105_eq _)).trans
      ((Cert.ReferenceIdeal.Whole.kl_eq _ _ _ _ _ _).trans (congr6 resKL e0 e1 e2 e3 e4 e5)),
    (h1.trans (Cert.ReferenceIdeal.Read.val_main_v142_eq _)).trans
      ((Cert.ReferenceIdeal.Whole.dgamma_eq _ _ _ _ _ _).trans (congr6 resDG e0 e1 e2 e3 e4 e5)),
    (h2.trans (Cert.ReferenceIdeal.Read.val_main_v140_eq _)).trans
      ((Cert.ReferenceIdeal.Whole.dh_eq _ _ _ _ _ _).trans (congr6 resDH e0 e1 e2 e3 e4 e5)),
    (h3.trans (Cert.ReferenceIdeal.Read.val_main_v32_eq _)).trans
      ((Cert.ReferenceIdeal.Whole.codes_eq _ _).trans (congrArg₂ resCode e0 e2)),
    (h4.trans (Cert.ReferenceIdeal.Read.val_main_v25_eq _)).trans
      ((Cert.ReferenceIdeal.Whole.scale_eq _ _).trans (congrArg₂ resScale e0 e2)),
    hargs⟩

end Cert.Proof

end
-- ==== Proof.lean ====
/- The proof of the certificate's claims. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel.Frame
public import proofs.«01_k».proof.Proof.Gen.KernelIdeal.Frame
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, frame_p, frame_pi, frame_ri, preserves, algebraic⟩

end Cert.Proof

end
